-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_groups_in_range [hPre_groups_in_range : Cert.Pre_groups_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_groups_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_groups_in_range [hPre_groups_in_range : Cert.Pre_groups_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_groups_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_groups_in_range [hKernelIdeal : Cert.KernelIdeal.Facts] [hPre_groups_in_range : Cert.Pre_groups_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_groups_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_groups_in_range [hReferenceIdeal : Cert.ReferenceIdeal.Facts] [hPre_groups_in_range : Cert.Pre_groups_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_groups_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_groups_in_range [hKernelIdeal : Cert.KernelIdeal.Facts] [hReferenceIdeal : Cert.ReferenceIdeal.Facts] [hPre_groups_in_range : Cert.Pre_groups_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_groups_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_groups_in_range : Cert.Pre_groups_in_range.Facts),
    quiescent_Kernel (hKernel := hKernel)
    ∧ quiescent_KernelIdeal (hKernelIdeal := hKernelIdeal)
    ∧ quiescent_KernelIdeal_pre_groups_in_range (hKernelIdeal := hKernelIdeal) (hPre_groups_in_range := hPre_groups_in_range)
    ∧ quiescent_ReferenceIdeal (hReferenceIdeal := hReferenceIdeal)
    ∧ quiescent_ReferenceIdeal_pre_groups_in_range (hReferenceIdeal := hReferenceIdeal) (hPre_groups_in_range := hPre_groups_in_range)
    ∧ preserves_Kernel_KernelIdeal
    ∧ algebraic_KernelIdeal_ReferenceIdeal_pre_groups_in_range (hKernelIdeal := hKernelIdeal) (hReferenceIdeal := hReferenceIdeal) (hPre_groups_in_range := hPre_groups_in_range)
-- ==== Pre_groups_in_range.lean ====
abbrev S16x6144x1024 : Shape := ⟨3, ![16, 6144, 1024]⟩
abbrev S16x1024x2048 : Shape := ⟨3, ![16, 1024, 2048]⟩
abbrev S16x8x16 : Shape := ⟨3, ![16, 8, 16]⟩
abbrev S16x6144x8x128 : Shape := ⟨4, ![16, 6144, 8, 128]⟩
abbrev S_ : Shape := ⟨0, ![]⟩
abbrev S16x6144x8 : Shape := ⟨3, ![16, 6144, 8]⟩

class Facts : Prop where
  bitsLt_bf16_f32 : FTy.bits .bf16 < FTy.bits .f32
  shapeCasts_S16x6144x1024_S16x6144x8x128 : S16x6144x1024.ShapeCasts S16x6144x8x128
  reducesTo_S16x6144x8x128_S16x6144x8_d3 : S16x6144x8x128.ReducesTo [3] S16x6144x8
  h_S_ : 0 < S_.numel
  bcast_S_S16x6144x8 : S_.BroadcastsInDim S16x6144x8 (![] : Fin 0 → Fin S16x6144x8.rank)

variable [Facts]

def fn {F : FTy → Type} [FloatOps F] (main_arg0 : FVec F S16x6144x1024 .bf16) (main_arg1 : FVec F S16x1024x2048 .fp8e4m3) (main_arg2 : FVec F S16x8x16 .f32) : IVec S16x6144x8 1 :=
  let main_v0 : FVec F S16x6144x1024 .f32 := (extf .f32 · bitsLt_bf16_f32) main_arg0
  let main_v1 : FVec F S16x6144x1024 .f32 := Host.absf main_v0
  let main_v2 : FVec F S16x6144x8x128 .f32 := shapeCast S16x6144x8x128 main_v1 shapeCasts_S16x6144x1024_S16x6144x8x128
  let main_cst : FVec F S_ .f32 := constant S_ .f32 0xFF800000#32
  let main_v3 : FVec F S16x6144x8 .f32 := (fun x v => Host.reduce FloatOps.maximumf x v reducesTo_S16x6144x8x128_S16x6144x8_d3 h_S_) main_v2 main_cst
  let main_cst_0 : FVec F S_ .f32 := constant S_ .f32 0x3B124925#32
  let main_v4 : FVec F S16x6144x8 .f32 := broadcastInDim S16x6144x8 ![] bcast_S_S16x6144x8 main_cst_0
  let main_v5 : FVec F S16x6144x8 .f32 := mulf main_v3 main_v4
  let main_cst_1 : FVec F S_ .f32 := constant S_ .f32 0x00000000#32
  let main_v6 : FVec F S16x6144x8 .f32 := broadcastInDim S16x6144x8 ![] bcast_S_S16x6144x8 main_cst_1
  let main_v7 : IVec S16x6144x8 1 := cmpf .oeq main_v5 main_v6
  let main_cst_2 : FVec F S_ .f32 := constant S_ .f32 0x00800000#32
  let main_v8 : FVec F S16x6144x8 .f32 := broadcastInDim S16x6144x8 ![] bcast_S_S16x6144x8 main_cst_2
  let main_v9 : IVec S16x6144x8 1 := cmpf .oge main_v5 main_v8
  let main_cst_3 : FVec F S_ .f32 := constant S_ .f32 0x7E800000#32
  let main_v10 : FVec F S16x6144x8 .f32 := broadcastInDim S16x6144x8 ![] bcast_S_S16x6144x8 main_cst_3
  let main_v11 : IVec S16x6144x8 1 := cmpf .olt main_v5 main_v10
  let main_v12 : IVec S16x6144x8 1 := andi main_v9 main_v11
  let main_v13 : IVec S16x6144x8 1 := ori main_v7 main_v12
  main_v13
-- ==== Kernel.lean ====
abbrev S16x6144x1024 : Shape := ⟨3, ![16, 6144, 1024]⟩
abbrev S16x1024x2048 : Shape := ⟨3, ![16, 1024, 2048]⟩
abbrev S16x8x16 : Shape := ⟨3, ![16, 8, 16]⟩
abbrev S16x128 : Shape := ⟨2, ![16, 128]⟩
abbrev S16x6144x2048 : Shape := ⟨3, ![16, 6144, 2048]⟩
abbrev S16x8x6144 : Shape := ⟨3, ![16, 8, 6144]⟩
abbrev S1x512x1024 : Shape := ⟨3, ![1, 512, 1024]⟩
abbrev S1x1024x2048 : Shape := ⟨3, ![1, 1024, 2048]⟩
abbrev S1x512x2048 : Shape := ⟨3, ![1, 512, 2048]⟩
abbrev S1x8x512 : Shape := ⟨3, ![1, 8, 512]⟩
abbrev S1024x2048 : Shape := ⟨2, ![1024, 2048]⟩
abbrev S1x1 : Shape := ⟨2, ![1, 1]⟩
abbrev S1x128x128 : Shape := ⟨3, ![1, 128, 128]⟩
abbrev S128x128 : Shape := ⟨2, ![128, 128]⟩
abbrev S128 : Shape := ⟨1, ![128]⟩
abbrev S128x1 : Shape := ⟨2, ![128, 1]⟩
abbrev S1x256 : Shape := ⟨2, ![1, 256]⟩
abbrev S128x256 : Shape := ⟨2, ![128, 256]⟩
abbrev S128x8 : Shape := ⟨2, ![128, 8]⟩
abbrev S8x128 : Shape := ⟨2, ![8, 128]⟩
abbrev S1x8x128 : Shape := ⟨3, ![1, 8, 128]⟩
abbrev S128x1024 : Shape := ⟨2, ![128, 1024]⟩
abbrev S128x2048 : Shape := ⟨2, ![128, 2048]⟩
abbrev S1x128x2048 : Shape := ⟨3, ![1, 128, 2048]⟩

abbrev nBuf : Space → Nat
  | .hbm => 7
  | .vmem => 11
  | .smem => 1
  | _ => 0

abbrev bufTy : (tb : Table) → Fin (tcTables nBuf tb) → BufTy
  | .hbm, ⟨0, _⟩ => ⟨S16x6144x1024, .bf16⟩
  | .hbm, ⟨1, _⟩ => ⟨S16x1024x2048, .fp8e4m3⟩
  | .hbm, ⟨2, _⟩ => ⟨S16x8x16, .f32⟩
  | .hbm, ⟨3, _⟩ => ⟨S16x128, .f32⟩
  | .hbm, ⟨4, _⟩ => ⟨S16x6144x2048, .bf16⟩
  | .hbm, ⟨5, _⟩ => ⟨S16x6144x1024, .fp8e4m3⟩
  | .hbm, ⟨6, _⟩ => ⟨S16x8x6144, .f32⟩
  | .local _ .vmem, ⟨0, _⟩ => ⟨S1x512x1024, .bf16⟩
  | .local _ .vmem, ⟨1, _⟩ => ⟨S1x512x1024, .bf16⟩
  | .local _ .vmem, ⟨2, _⟩ => ⟨S1x1024x2048, .fp8e4m3⟩
  | .local _ .vmem, ⟨3, _⟩ => ⟨S1x1024x2048, .fp8e4m3⟩
  | .local _ .vmem, ⟨4, _⟩ => ⟨S1x512x2048, .bf16⟩
  | .local _ .vmem, ⟨5, _⟩ => ⟨S1x512x2048, .bf16⟩
  | .local _ .vmem, ⟨6, _⟩ => ⟨S1x512x1024, .fp8e4m3⟩
  | .local _ .vmem, ⟨7, _⟩ => ⟨S1x512x1024, .fp8e4m3⟩
  | .local _ .vmem, ⟨8, _⟩ => ⟨S1x8x512, .f32⟩
  | .local _ .vmem, ⟨9, _⟩ => ⟨S1x8x512, .f32⟩
  | .local _ .vmem, ⟨10, _⟩ => ⟨S1024x2048, .bf16⟩
  | .local _ .smem, ⟨0, _⟩ => ⟨S16x128, .f32⟩
  | _, _ => ⟨S16x6144x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 12], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg0 : BitVec 32 := BitVec.ofNat 32 (i 0).val
  let v1491 : Index := Scalar.indexCast arg0
  let c0_568 : Index := 0#32
  ![v1491.toNat, 0]
def k0_off2 (i : grid0.Coords) : Fin 2 → Nat :=
  let arg0 : BitVec 32 := BitVec.ofNat 32 (i 0).val
  let v1502 : Index := Scalar.indexCast arg0
  let c1 : Index := 1#32
  ![v1502.toNat, 1]
def k0_off3 (i : grid0.Coords) : Fin 2 → Nat :=
  let arg0 : BitVec 32 := BitVec.ofNat 32 (i 0).val
  let v1513 : Index := Scalar.indexCast arg0
  let c2 : Index := 2#32
  ![v1513.toNat, 2]
def k0_off4 (i : grid0.Coords) : Fin 2 → Nat :=
  let arg0 : BitVec 32 := BitVec.ofNat 32 (i 0).val
  let v1524 : Index := Scalar.indexCast arg0
  let c3 : Index := 3#32
  ![v1524.toNat, 3]
def k0_off5 (i : grid0.Coords) : Fin 2 → Nat :=
  let arg0 : BitVec 32 := BitVec.ofNat 32 (i 0).val
  let v1535 : Index := Scalar.indexCast arg0
  let c4 : Index := 4#32
  ![v1535.toNat, 4]
def k0_off6 (i : grid0.Coords) : Fin 2 → Nat :=
  let arg0 : BitVec 32 := BitVec.ofNat 32 (i 0).val
  let v1546 : Index := Scalar.indexCast arg0
  let c5 : Index := 5#32
  ![v1546.toNat, 5]
def k0_off7 (i : grid0.Coords) : Fin 2 → Nat :=
  let arg0 : BitVec 32 := BitVec.ofNat 32 (i 0).val
  let v1557 : Index := Scalar.indexCast arg0
  let c6 : Index := 6#32
  ![v1557.toNat, 6]
def k0_off8 (i : grid0.Coords) : Fin 2 → Nat :=
  let arg0 : BitVec 32 := BitVec.ofNat 32 (i 0).val
  let v1568 : Index := Scalar.indexCast arg0
  let c7 : Index := 7#32
  ![v1568.toNat, 7]
def k0_off9 (i : grid0.Coords) : Fin 2 → Nat :=
  let arg0 : BitVec 32 := BitVec.ofNat 32 (i 0).val
  let v1579 : Index := Scalar.indexCast arg0
  let c8 : Index := 8#32
  ![v1579.toNat, 8]
def k0_off10 (i : grid0.Coords) : Fin 2 → Nat :=
  let arg0 : BitVec 32 := BitVec.ofNat 32 (i 0).val
  let v1590 : Index := Scalar.indexCast arg0
  let c9 : Index := 9#32
  ![v1590.toNat, 9]
def k0_off11 (i : grid0.Coords) : Fin 2 → Nat :=
  let arg0 : BitVec 32 := BitVec.ofNat 32 (i 0).val
  let v1601 : Index := Scalar.indexCast arg0
  let c10 : Index := 10#32
  ![v1601.toNat, 10]
def k0_off12 (i : grid0.Coords) : Fin 2 → Nat :=
  let arg0 : BitVec 32 := BitVec.ofNat 32 (i 0).val
  let v1612 : Index := Scalar.indexCast arg0
  let c11 : Index := 11#32
  ![v1612.toNat, 11]
def k0_off13 (i : grid0.Coords) : Fin 2 → Nat :=
  let arg0 : BitVec 32 := BitVec.ofNat 32 (i 0).val
  let v1623 : Index := Scalar.indexCast arg0
  let c12 : Index := 12#32
  ![v1623.toNat, 12]
def k0_off14 (i : grid0.Coords) : Fin 2 → Nat :=
  let arg0 : BitVec 32 := BitVec.ofNat 32 (i 0).val
  let v1634 : Index := Scalar.indexCast arg0
  let c13 : Index := 13#32
  ![v1634.toNat, 13]
def k0_off15 (i : grid0.Coords) : Fin 2 → Nat :=
  let arg0 : BitVec 32 := BitVec.ofNat 32 (i 0).val
  let v1645 : Index := Scalar.indexCast arg0
  let c14 : Index := 14#32
  ![v1645.toNat, 14]
def k0_off16 (i : grid0.Coords) : Fin 2 → Nat :=
  let arg0 : BitVec 32 := BitVec.ofNat 32 (i 0).val
  let v1656 : Index := Scalar.indexCast arg0
  let c15 : Index := 15#32
  ![v1656.toNat, 15]
def k0_off17 (i : grid0.Coords) : Fin 2 → Nat :=
  let arg0 : BitVec 32 := BitVec.ofNat 32 (i 0).val
  let v1667 : Index := Scalar.indexCast arg0
  let c16 : Index := 16#32
  ![v1667.toNat, 16]
def k0_off18 (i : grid0.Coords) : Fin 2 → Nat :=
  let arg0 : BitVec 32 := BitVec.ofNat 32 (i 0).val
  let v1678 : Index := Scalar.indexCast arg0
  let c17 : Index := 17#32
  ![v1678.toNat, 17]
def k0_off19 (i : grid0.Coords) : Fin 2 → Nat :=
  let arg0 : BitVec 32 := BitVec.ofNat 32 (i 0).val
  let v1689 : Index := Scalar.indexCast arg0
  let c18 : Index := 18#32
  ![v1689.toNat, 18]
def k0_off20 (i : grid0.Coords) : Fin 2 → Nat :=
  let arg0 : BitVec 32 := BitVec.ofNat 32 (i 0).val
  let v1700 : Index := Scalar.indexCast arg0
  let c19 : Index := 19#32
  ![v1700.toNat, 19]
def k0_off21 (i : grid0.Coords) : Fin 2 → Nat :=
  let arg0 : BitVec 32 := BitVec.ofNat 32 (i 0).val
  let v1711 : Index := Scalar.indexCast arg0
  let c20 : Index := 20#32
  ![v1711.toNat, 20]
def k0_off22 (i : grid0.Coords) : Fin 2 → Nat :=
  let arg0 : BitVec 32 := BitVec.ofNat 32 (i 0).val
  let v1722 : Index := Scalar.indexCast arg0
  let c21 : Index := 21#32
  ![v1722.toNat, 21]
def k0_off23 (i : grid0.Coords) : Fin 2 → Nat :=
  let arg0 : BitVec 32 := BitVec.ofNat 32 (i 0).val
  let v1733 : Index := Scalar.indexCast arg0
  let c22 : Index := 22#32
  ![v1733.toNat, 22]
def k0_off24 (i : grid0.Coords) : Fin 2 → Nat :=
  let arg0 : BitVec 32 := BitVec.ofNat 32 (i 0).val
  let v1744 : Index := Scalar.indexCast arg0
  let c23 : Index := 23#32
  ![v1744.toNat, 23]
def k0_off25 (i : grid0.Coords) : Fin 2 → Nat :=
  let arg0 : BitVec 32 := BitVec.ofNat 32 (i 0).val
  let v1755 : Index := Scalar.indexCast arg0
  let c24 : Index := 24#32
  ![v1755.toNat, 24]
def k0_off26 (i : grid0.Coords) : Fin 2 → Nat :=
  let arg0 : BitVec 32 := BitVec.ofNat 32 (i 0).val
  let v1766 : Index := Scalar.indexCast arg0
  let c25 : Index := 25#32
  ![v1766.toNat, 25]
def k0_off27 (i : grid0.Coords) : Fin 2 → Nat :=
  let arg0 : BitVec 32 := BitVec.ofNat 32 (i 0).val
  let v1777 : Index := Scalar.indexCast arg0
  let c26 : Index := 26#32
  ![v1777.toNat, 26]
def k0_off28 (i : grid0.Coords) : Fin 2 → Nat :=
  let arg0 : BitVec 32 := BitVec.ofNat 32 (i 0).val
  let v1788 : Index := Scalar.indexCast arg0
  let c27 : Index := 27#32
  ![v1788.toNat, 27]
def k0_off29 (i : grid0.Coords) : Fin 2 → Nat :=
  let arg0 : BitVec 32 := BitVec.ofNat 32 (i 0).val
  let v1799 : Index := Scalar.indexCast arg0
  let c28 : Index := 28#32
  ![v1799.toNat, 28]
def k0_off30 (i : grid0.Coords) : Fin 2 → Nat :=
  let arg0 : BitVec 32 := BitVec.ofNat 32 (i 0).val
  let v1810 : Index := Scalar.indexCast arg0
  let c29 : Index := 29#32
  ![v1810.toNat, 29]
def k0_off31 (i : grid0.Coords) : Fin 2 → Nat :=
  let arg0 : BitVec 32 := BitVec.ofNat 32 (i 0).val
  let v1821 : Index := Scalar.indexCast arg0
  let c30 : Index := 30#32
  ![v1821.toNat, 30]
def k0_off32 (i : grid0.Coords) : Fin 2 → Nat :=
  let arg0 : BitVec 32 := BitVec.ofNat 32 (i 0).val
  let v1832 : Index := Scalar.indexCast arg0
  let c31 : Index := 31#32
  ![v1832.toNat, 31]
def k0_off33 (i : grid0.Coords) : Fin 2 → Nat :=
  let arg0 : BitVec 32 := BitVec.ofNat 32 (i 0).val
  let v1843 : Index := Scalar.indexCast arg0
  let c32 : Index := 32#32
  ![v1843.toNat, 32]
def k0_off34 (i : grid0.Coords) : Fin 2 → Nat :=
  let arg0 : BitVec 32 := BitVec.ofNat 32 (i 0).val
  let v1854 : Index := Scalar.indexCast arg0
  let c33 : Index := 33#32
  ![v1854.toNat, 33]
def k0_off35 (i : grid0.Coords) : Fin 2 → Nat :=
  let arg0 : BitVec 32 := BitVec.ofNat 32 (i 0).val
  let v1865 : Index := Scalar.indexCast arg0
  let c34 : Index := 34#32
  ![v1865.toNat, 34]
def k0_off36 (i : grid0.Coords) : Fin 2 → Nat :=
  let arg0 : BitVec 32 := BitVec.ofNat 32 (i 0).val
  let v1876 : Index := Scalar.indexCast arg0
  let c35 : Index := 35#32
  ![v1876.toNat, 35]
def k0_off37 (i : grid0.Coords) : Fin 2 → Nat :=
  let arg0 : BitVec 32 := BitVec.ofNat 32 (i 0).val
  let v1887 : Index := Scalar.indexCast arg0
  let c36 : Index := 36#32
  ![v1887.toNat, 36]
def k0_off38 (i : grid0.Coords) : Fin 2 → Nat :=
  let arg0 : BitVec 32 := BitVec.ofNat 32 (i 0).val
  let v1898 : Index := Scalar.indexCast arg0
  let c37 : Index := 37#32
  ![v1898.toNat, 37]
def k0_off39 (i : grid0.Coords) : Fin 2 → Nat :=
  let arg0 : BitVec 32 := BitVec.ofNat 32 (i 0).val
  let v1909 : Index := Scalar.indexCast arg0
  let c38 : Index := 38#32
  ![v1909.toNat, 38]
def k0_off40 (i : grid0.Coords) : Fin 2 → Nat :=
  let arg0 : BitVec 32 := BitVec.ofNat 32 (i 0).val
  let v1920 : Index := Scalar.indexCast arg0
  let c39 : Index := 39#32
  ![v1920.toNat, 39]
def k0_off41 (i : grid0.Coords) : Fin 2 → Nat :=
  let arg0 : BitVec 32 := BitVec.ofNat 32 (i 0).val
  let v1931 : Index := Scalar.indexCast arg0
  let c40 : Index := 40#32
  ![v1931.toNat, 40]
def k0_off42 (i : grid0.Coords) : Fin 2 → Nat :=
  let arg0 : BitVec 32 := BitVec.ofNat 32 (i 0).val
  let v1942 : Index := Scalar.indexCast arg0
  let c41 : Index := 41#32
  ![v1942.toNat, 41]
def k0_off43 (i : grid0.Coords) : Fin 2 → Nat :=
  let arg0 : BitVec 32 := BitVec.ofNat 32 (i 0).val
  let v1953 : Index := Scalar.indexCast arg0
  let c42 : Index := 42#32
  ![v1953.toNat, 42]
def k0_off44 (i : grid0.Coords) : Fin 2 → Nat :=
  let arg0 : BitVec 32 := BitVec.ofNat 32 (i 0).val
  let v1964 : Index := Scalar.indexCast arg0
  let c43 : Index := 43#32
  ![v1964.toNat, 43]
def k0_off45 (i : grid0.Coords) : Fin 2 → Nat :=
  let arg0 : BitVec 32 := BitVec.ofNat 32 (i 0).val
  let v1975 : Index := Scalar.indexCast arg0
  let c44 : Index := 44#32
  ![v1975.toNat, 44]
def k0_off46 (i : grid0.Coords) : Fin 2 → Nat :=
  let arg0 : BitVec 32 := BitVec.ofNat 32 (i 0).val
  let v1986 : Index := Scalar.indexCast arg0
  let c45 : Index := 45#32
  ![v1986.toNat, 45]
def k0_off47 (i : grid0.Coords) : Fin 2 → Nat :=
  let arg0 : BitVec 32 := BitVec.ofNat 32 (i 0).val
  let v1997 : Index := Scalar.indexCast arg0
  let c46 : Index := 46#32
  ![v1997.toNat, 46]
def k0_off48 (i : grid0.Coords) : Fin 2 → Nat :=
  let arg0 : BitVec 32 := BitVec.ofNat 32 (i 0).val
  let v2008 : Index := Scalar.indexCast arg0
  let c47 : Index := 47#32
  ![v2008.toNat, 47]
def k0_off49 (i : grid0.Coords) : Fin 2 → Nat :=
  let arg0 : BitVec 32 := BitVec.ofNat 32 (i 0).val
  let v2019 : Index := Scalar.indexCast arg0
  let c48 : Index := 48#32
  ![v2019.toNat, 48]
def k0_off50 (i : grid0.Coords) : Fin 2 → Nat :=
  let arg0 : BitVec 32 := BitVec.ofNat 32 (i 0).val
  let v2030 : Index := Scalar.indexCast arg0
  let c49 : Index := 49#32
  ![v2030.toNat, 49]
def k0_off51 (i : grid0.Coords) : Fin 2 → Nat :=
  let arg0 : BitVec 32 := BitVec.ofNat 32 (i 0).val
  let v2041 : Index := Scalar.indexCast arg0
  let c50 : Index := 50#32
  ![v2041.toNat, 50]
def k0_off52 (i : grid0.Coords) : Fin 2 → Nat :=
  let arg0 : BitVec 32 := BitVec.ofNat 32 (i 0).val
  let v2052 : Index := Scalar.indexCast arg0
  let c51 : Index := 51#32
  ![v2052.toNat, 51]
def k0_off53 (i : grid0.Coords) : Fin 2 → Nat :=
  let arg0 : BitVec 32 := BitVec.ofNat 32 (i 0).val
  let v2063 : Index := Scalar.indexCast arg0
  let c52 : Index := 52#32
  ![v2063.toNat, 52]
def k0_off54 (i : grid0.Coords) : Fin 2 → Nat :=
  let arg0 : BitVec 32 := BitVec.ofNat 32 (i 0).val
  let v2074 : Index := Scalar.indexCast arg0
  let c53 : Index := 53#32
  ![v2074.toNat, 53]
def k0_off55 (i : grid0.Coords) : Fin 2 → Nat :=
  let arg0 : BitVec 32 := BitVec.ofNat 32 (i 0).val
  let v2085 : Index := Scalar.indexCast arg0
  let c54 : Index := 54#32
  ![v2085.toNat, 54]
def k0_off56 (i : grid0.Coords) : Fin 2 → Nat :=
  let arg0 : BitVec 32 := BitVec.ofNat 32 (i 0).val
  let v2096 : Index := Scalar.indexCast arg0
  let c55 : Index := 55#32
  ![v2096.toNat, 55]
def k0_off57 (i : grid0.Coords) : Fin 2 → Nat :=
  let arg0 : BitVec 32 := BitVec.ofNat 32 (i 0).val
  let v2107 : Index := Scalar.indexCast arg0
  let c56 : Index := 56#32
  ![v2107.toNat, 56]
def k0_off58 (i : grid0.Coords) : Fin 2 → Nat :=
  let arg0 : BitVec 32 := BitVec.ofNat 32 (i 0).val
  let v2118 : Index := Scalar.indexCast arg0
  let c57 : Index := 57#32
  ![v2118.toNat, 57]
def k0_off59 (i : grid0.Coords) : Fin 2 → Nat :=
  let arg0 : BitVec 32 := BitVec.ofNat 32 (i 0).val
  let v2129 : Index := Scalar.indexCast arg0
  let c58 : Index := 58#32
  ![v2129.toNat, 58]
def k0_off60 (i : grid0.Coords) : Fin 2 → Nat :=
  let arg0 : BitVec 32 := BitVec.ofNat 32 (i 0).val
  let v2140 : Index := Scalar.indexCast arg0
  let c59 : Index := 59#32
  ![v2140.toNat, 59]
def k0_off61 (i : grid0.Coords) : Fin 2 → Nat :=
  let arg0 : BitVec 32 := BitVec.ofNat 32 (i 0).val
  let v2151 : Index := Scalar.indexCast arg0
  let c60 : Index := 60#32
  ![v2151.toNat, 60]
def k0_off62 (i : grid0.Coords) : Fin 2 → Nat :=
  let arg0 : BitVec 32 := BitVec.ofNat 32 (i 0).val
  let v2162 : Index := Scalar.indexCast arg0
  let c61 : Index := 61#32
  ![v2162.toNat, 61]
def k0_off63 (i : grid0.Coords) : Fin 2 → Nat :=
  let arg0 : BitVec 32 := BitVec.ofNat 32 (i 0).val
  let v2173 : Index := Scalar.indexCast arg0
  let c62 : Index := 62#32
  ![v2173.toNat, 62]
def k0_off64 (i : grid0.Coords) : Fin 2 → Nat :=
  let arg0 : BitVec 32 := BitVec.ofNat 32 (i 0).val
  let v2184 : Index := Scalar.indexCast arg0
  let c63 : Index := 63#32
  ![v2184.toNat, 63]
def k0_off65 (i : grid0.Coords) : Fin 2 → Nat :=
  let arg0 : BitVec 32 := BitVec.ofNat 32 (i 0).val
  let v2195 : Index := Scalar.indexCast arg0
  let c64 : Index := 64#32
  ![v2195.toNat, 64]
def k0_off66 (i : grid0.Coords) : Fin 2 → Nat :=
  let arg0 : BitVec 32 := BitVec.ofNat 32 (i 0).val
  let v2206 : Index := Scalar.indexCast arg0
  let c65 : Index := 65#32
  ![v2206.toNat, 65]
def k0_off67 (i : grid0.Coords) : Fin 2 → Nat :=
  let arg0 : BitVec 32 := BitVec.ofNat 32 (i 0).val
  let v2217 : Index := Scalar.indexCast arg0
  let c66 : Index := 66#32
  ![v2217.toNat, 66]
def k0_off68 (i : grid0.Coords) : Fin 2 → Nat :=
  let arg0 : BitVec 32 := BitVec.ofNat 32 (i 0).val
  let v2228 : Index := Scalar.indexCast arg0
  let c67 : Index := 67#32
  ![v2228.toNat, 67]
def k0_off69 (i : grid0.Coords) : Fin 2 → Nat :=
  let arg0 : BitVec 32 := BitVec.ofNat 32 (i 0).val
  let v2239 : Index := Scalar.indexCast arg0
  let c68 : Index := 68#32
  ![v2239.toNat, 68]
def k0_off70 (i : grid0.Coords) : Fin 2 → Nat :=
  let arg0 : BitVec 32 := BitVec.ofNat 32 (i 0).val
  let v2250 : Index := Scalar.indexCast arg0
  let c69 : Index := 69#32
  ![v2250.toNat, 69]
def k0_off71 (i : grid0.Coords) : Fin 2 → Nat :=
  let arg0 : BitVec 32 := BitVec.ofNat 32 (i 0).val
  let v2261 : Index := Scalar.indexCast arg0
  let c70 : Index := 70#32
  ![v2261.toNat, 70]
def k0_off72 (i : grid0.Coords) : Fin 2 → Nat :=
  let arg0 : BitVec 32 := BitVec.ofNat 32 (i 0).val
  let v2272 : Index := Scalar.indexCast arg0
  let c71 : Index := 71#32
  ![v2272.toNat, 71]
def k0_off73 (i : grid0.Coords) : Fin 2 → Nat :=
  let arg0 : BitVec 32 := BitVec.ofNat 32 (i 0).val
  let v2283 : Index := Scalar.indexCast arg0
  let c72 : Index := 72#32
  ![v2283.toNat, 72]
def k0_off74 (i : grid0.Coords) : Fin 2 → Nat :=
  let arg0 : BitVec 32 := BitVec.ofNat 32 (i 0).val
  let v2294 : Index := Scalar.indexCast arg0
  let c73 : Index := 73#32
  ![v2294.toNat, 73]
def k0_off75 (i : grid0.Coords) : Fin 2 → Nat :=
  let arg0 : BitVec 32 := BitVec.ofNat 32 (i 0).val
  let v2305 : Index := Scalar.indexCast arg0
  let c74 : Index := 74#32
  ![v2305.toNat, 74]
def k0_off76 (i : grid0.Coords) : Fin 2 → Nat :=
  let arg0 : BitVec 32 := BitVec.ofNat 32 (i 0).val
  let v2316 : Index := Scalar.indexCast arg0
  let c75 : Index := 75#32
  ![v2316.toNat, 75]
def k0_off77 (i : grid0.Coords) : Fin 2 → Nat :=
  let arg0 : BitVec 32 := BitVec.ofNat 32 (i 0).val
  let v2327 : Index := Scalar.indexCast arg0
  let c76 : Index := 76#32
  ![v2327.toNat, 76]
def k0_off78 (i : grid0.Coords) : Fin 2 → Nat :=
  let arg0 : BitVec 32 := BitVec.ofNat 32 (i 0).val
  let v2338 : Index := Scalar.indexCast arg0
  let c77 : Index := 77#32
  ![v2338.toNat, 77]
def k0_off79 (i : grid0.Coords) : Fin 2 → Nat :=
  let arg0 : BitVec 32 := BitVec.ofNat 32 (i 0).val
  let v2349 : Index := Scalar.indexCast arg0
  let c78 : Index := 78#32
  ![v2349.toNat, 78]
def k0_off80 (i : grid0.Coords) : Fin 2 → Nat :=
  let arg0 : BitVec 32 := BitVec.ofNat 32 (i 0).val
  let v2360 : Index := Scalar.indexCast arg0
  let c79 : Index := 79#32
  ![v2360.toNat, 79]
def k0_off81 (i : grid0.Coords) : Fin 2 → Nat :=
  let arg0 : BitVec 32 := BitVec.ofNat 32 (i 0).val
  let v2371 : Index := Scalar.indexCast arg0
  let c80 : Index := 80#32
  ![v2371.toNat, 80]
def k0_off82 (i : grid0.Coords) : Fin 2 → Nat :=
  let arg0 : BitVec 32 := BitVec.ofNat 32 (i 0).val
  let v2382 : Index := Scalar.indexCast arg0
  let c81 : Index := 81#32
  ![v2382.toNat, 81]
def k0_off83 (i : grid0.Coords) : Fin 2 → Nat :=
  let arg0 : BitVec 32 := BitVec.ofNat 32 (i 0).val
  let v2393 : Index := Scalar.indexCast arg0
  let c82 : Index := 82#32
  ![v2393.toNat, 82]
def k0_off84 (i : grid0.Coords) : Fin 2 → Nat :=
  let arg0 : BitVec 32 := BitVec.ofNat 32 (i 0).val
  let v2404 : Index := Scalar.indexCast arg0
  let c83 : Index := 83#32
  ![v2404.toNat, 83]
def k0_off85 (i : grid0.Coords) : Fin 2 → Nat :=
  let arg0 : BitVec 32 := BitVec.ofNat 32 (i 0).val
  let v2415 : Index := Scalar.indexCast arg0
  let c84 : Index := 84#32
  ![v2415.toNat, 84]
def k0_off86 (i : grid0.Coords) : Fin 2 → Nat :=
  let arg0 : BitVec 32 := BitVec.ofNat 32 (i 0).val
  let v2426 : Index := Scalar.indexCast arg0
  let c85 : Index := 85#32
  ![v2426.toNat, 85]
def k0_off87 (i : grid0.Coords) : Fin 2 → Nat :=
  let arg0 : BitVec 32 := BitVec.ofNat 32 (i 0).val
  let v2437 : Index := Scalar.indexCast arg0
  let c86 : Index := 86#32
  ![v2437.toNat, 86]
def k0_off88 (i : grid0.Coords) : Fin 2 → Nat :=
  let arg0 : BitVec 32 := BitVec.ofNat 32 (i 0).val
  let v2448 : Index := Scalar.indexCast arg0
  let c87 : Index := 87#32
  ![v2448.toNat, 87]
def k0_off89 (i : grid0.Coords) : Fin 2 → Nat :=
  let arg0 : BitVec 32 := BitVec.ofNat 32 (i 0).val
  let v2459 : Index := Scalar.indexCast arg0
  let c88 : Index := 88#32
  ![v2459.toNat, 88]
def k0_off90 (i : grid0.Coords) : Fin 2 → Nat :=
  let arg0 : BitVec 32 := BitVec.ofNat 32 (i 0).val
  let v2470 : Index := Scalar.indexCast arg0
  let c89 : Index := 89#32
  ![v2470.toNat, 89]
def k0_off91 (i : grid0.Coords) : Fin 2 → Nat :=
  let arg0 : BitVec 32 := BitVec.ofNat 32 (i 0).val
  let v2481 : Index := Scalar.indexCast arg0
  let c90 : Index := 90#32
  ![v2481.toNat, 90]
def k0_off92 (i : grid0.Coords) : Fin 2 → Nat :=
  let arg0 : BitVec 32 := BitVec.ofNat 32 (i 0).val
  let v2492 : Index := Scalar.indexCast arg0
  let c91 : Index := 91#32
  ![v2492.toNat, 91]
def k0_off93 (i : grid0.Coords) : Fin 2 → Nat :=
  let arg0 : BitVec 32 := BitVec.ofNat 32 (i 0).val
  let v2503 : Index := Scalar.indexCast arg0
  let c92 : Index := 92#32
  ![v2503.toNat, 92]
def k0_off94 (i : grid0.Coords) : Fin 2 → Nat :=
  let arg0 : BitVec 32 := BitVec.ofNat 32 (i 0).val
  let v2514 : Index := Scalar.indexCast arg0
  let c93 : Index := 93#32
  ![v2514.toNat, 93]
def k0_off95 (i : grid0.Coords) : Fin 2 → Nat :=
  let arg0 : BitVec 32 := BitVec.ofNat 32 (i 0).val
  let v2525 : Index := Scalar.indexCast arg0
  let c94 : Index := 94#32
  ![v2525.toNat, 94]
def k0_off96 (i : grid0.Coords) : Fin 2 → Nat :=
  let arg0 : BitVec 32 := BitVec.ofNat 32 (i 0).val
  let v2536 : Index := Scalar.indexCast arg0
  let c95 : Index := 95#32
  ![v2536.toNat, 95]
def k0_off97 (i : grid0.Coords) : Fin 2 → Nat :=
  let arg0 : BitVec 32 := BitVec.ofNat 32 (i 0).val
  let v2547 : Index := Scalar.indexCast arg0
  let c96 : Index := 96#32
  ![v2547.toNat, 96]
def k0_off98 (i : grid0.Coords) : Fin 2 → Nat :=
  let arg0 : BitVec 32 := BitVec.ofNat 32 (i 0).val
  let v2558 : Index := Scalar.indexCast arg0
  let c97 : Index := 97#32
  ![v2558.toNat, 97]
def k0_off99 (i : grid0.Coords) : Fin 2 → Nat :=
  let arg0 : BitVec 32 := BitVec.ofNat 32 (i 0).val
  let v2569 : Index := Scalar.indexCast arg0
  let c98 : Index := 98#32
  ![v2569.toNat, 98]
def k0_off100 (i : grid0.Coords) : Fin 2 → Nat :=
  let arg0 : BitVec 32 := BitVec.ofNat 32 (i 0).val
  let v2580 : Index := Scalar.indexCast arg0
  let c99 : Index := 99#32
  ![v2580.toNat, 99]
def k0_off101 (i : grid0.Coords) : Fin 2 → Nat :=
  let arg0 : BitVec 32 := BitVec.ofNat 32 (i 0).val
  let v2591 : Index := Scalar.indexCast arg0
  let c100 : Index := 100#32
  ![v2591.toNat, 100]
def k0_off102 (i : grid0.Coords) : Fin 2 → Nat :=
  let arg0 : BitVec 32 := BitVec.ofNat 32 (i 0).val
  let v2602 : Index := Scalar.indexCast arg0
  let c101 : Index := 101#32
  ![v2602.toNat, 101]
def k0_off103 (i : grid0.Coords) : Fin 2 → Nat :=
  let arg0 : BitVec 32 := BitVec.ofNat 32 (i 0).val
  let v2613 : Index := Scalar.indexCast arg0
  let c102 : Index := 102#32
  ![v2613.toNat, 102]
def k0_off104 (i : grid0.Coords) : Fin 2 → Nat :=
  let arg0 : BitVec 32 := BitVec.ofNat 32 (i 0).val
  let v2624 : Index := Scalar.indexCast arg0
  let c103 : Index := 103#32
  ![v2624.toNat, 103]
def k0_off105 (i : grid0.Coords) : Fin 2 → Nat :=
  let arg0 : BitVec 32 := BitVec.ofNat 32 (i 0).val
  let v2635 : Index := Scalar.indexCast arg0
  let c104 : Index := 104#32
  ![v2635.toNat, 104]
def k0_off106 (i : grid0.Coords) : Fin 2 → Nat :=
  let arg0 : BitVec 32 := BitVec.ofNat 32 (i 0).val
  let v2646 : Index := Scalar.indexCast arg0
  let c105 : Index := 105#32
  ![v2646.toNat, 105]
def k0_off107 (i : grid0.Coords) : Fin 2 → Nat :=
  let arg0 : BitVec 32 := BitVec.ofNat 32 (i 0).val
  let v2657 : Index := Scalar.indexCast arg0
  let c106 : Index := 106#32
  ![v2657.toNat, 106]
def k0_off108 (i : grid0.Coords) : Fin 2 → Nat :=
  let arg0 : BitVec 32 := BitVec.ofNat 32 (i 0).val
  let v2668 : Index := Scalar.indexCast arg0
  let c107 : Index := 107#32
  ![v2668.toNat, 107]
def k0_off109 (i : grid0.Coords) : Fin 2 → Nat :=
  let arg0 : BitVec 32 := BitVec.ofNat 32 (i 0).val
  let v2679 : Index := Scalar.indexCast arg0
  let c108 : Index := 108#32
  ![v2679.toNat, 108]
def k0_off110 (i : grid0.Coords) : Fin 2 → Nat :=
  let arg0 : BitVec 32 := BitVec.ofNat 32 (i 0).val
  let v2690 : Index := Scalar.indexCast arg0
  let c109 : Index := 109#32
  ![v2690.toNat, 109]
def k0_off111 (i : grid0.Coords) : Fin 2 → Nat :=
  let arg0 : BitVec 32 := BitVec.ofNat 32 (i 0).val
  let v2701 : Index := Scalar.indexCast arg0
  let c110 : Index := 110#32
  ![v2701.toNat, 110]
def k0_off112 (i : grid0.Coords) : Fin 2 → Nat :=
  let arg0 : BitVec 32 := BitVec.ofNat 32 (i 0).val
  let v2712 : Index := Scalar.indexCast arg0
  let c111 : Index := 111#32
  ![v2712.toNat, 111]
def k0_off113 (i : grid0.Coords) : Fin 2 → Nat :=
  let arg0 : BitVec 32 := BitVec.ofNat 32 (i 0).val
  let v2723 : Index := Scalar.indexCast arg0
  let c112 : Index := 112#32
  ![v2723.toNat, 112]
def k0_off114 (i : grid0.Coords) : Fin 2 → Nat :=
  let arg0 : BitVec 32 := BitVec.ofNat 32 (i 0).val
  let v2734 : Index := Scalar.indexCast arg0
  let c113 : Index := 113#32
  ![v2734.toNat, 113]
def k0_off115 (i : grid0.Coords) : Fin 2 → Nat :=
  let arg0 : BitVec 32 := BitVec.ofNat 32 (i 0).val
  let v2745 : Index := Scalar.indexCast arg0
  let c114 : Index := 114#32
  ![v2745.toNat, 114]
def k0_off116 (i : grid0.Coords) : Fin 2 → Nat :=
  let arg0 : BitVec 32 := BitVec.ofNat 32 (i 0).val
  let v2756 : Index := Scalar.indexCast arg0
  let c115 : Index := 115#32
  ![v2756.toNat, 115]
def k0_off117 (i : grid0.Coords) : Fin 2 → Nat :=
  let arg0 : BitVec 32 := BitVec.ofNat 32 (i 0).val
  let v2767 : Index := Scalar.indexCast arg0
  let c116 : Index := 116#32
  ![v2767.toNat, 116]
def k0_off118 (i : grid0.Coords) : Fin 2 → Nat :=
  let arg0 : BitVec 32 := BitVec.ofNat 32 (i 0).val
  let v2778 : Index := Scalar.indexCast arg0
  let c117 : Index := 117#32
  ![v2778.toNat, 117]
def k0_off119 (i : grid0.Coords) : Fin 2 → Nat :=
  let arg0 : BitVec 32 := BitVec.ofNat 32 (i 0).val
  let v2789 : Index := Scalar.indexCast arg0
  let c118 : Index := 118#32
  ![v2789.toNat, 118]
def k0_off120 (i : grid0.Coords) : Fin 2 → Nat :=
  let arg0 : BitVec 32 := BitVec.ofNat 32 (i 0).val
  let v2800 : Index := Scalar.indexCast arg0
  let c119 : Index := 119#32
  ![v2800.toNat, 119]
def k0_off121 (i : grid0.Coords) : Fin 2 → Nat :=
  let arg0 : BitVec 32 := BitVec.ofNat 32 (i 0).val
  let v2811 : Index := Scalar.indexCast arg0
  let c120 : Index := 120#32
  ![v2811.toNat, 120]
def k0_off122 (i : grid0.Coords) : Fin 2 → Nat :=
  let arg0 : BitVec 32 := BitVec.ofNat 32 (i 0).val
  let v2822 : Index := Scalar.indexCast arg0
  let c121 : Index := 121#32
  ![v2822.toNat, 121]
def k0_off123 (i : grid0.Coords) : Fin 2 → Nat :=
  let arg0 : BitVec 32 := BitVec.ofNat 32 (i 0).val
  let v2833 : Index := Scalar.indexCast arg0
  let c122 : Index := 122#32
  ![v2833.toNat, 122]
def k0_off124 (i : grid0.Coords) : Fin 2 → Nat :=
  let arg0 : BitVec 32 := BitVec.ofNat 32 (i 0).val
  let v2844 : Index := Scalar.indexCast arg0
  let c123 : Index := 123#32
  ![v2844.toNat, 123]
def k0_off125 (i : grid0.Coords) : Fin 2 → Nat :=
  let arg0 : BitVec 32 := BitVec.ofNat 32 (i 0).val
  let v2855 : Index := Scalar.indexCast arg0
  let c124 : Index := 124#32
  ![v2855.toNat, 124]
def k0_off126 (i : grid0.Coords) : Fin 2 → Nat :=
  let arg0 : BitVec 32 := BitVec.ofNat 32 (i 0).val
  let v2866 : Index := Scalar.indexCast arg0
  let c125 : Index := 125#32
  ![v2866.toNat, 125]
def k0_off127 (i : grid0.Coords) : Fin 2 → Nat :=
  let arg0 : BitVec 32 := BitVec.ofNat 32 (i 0).val
  let v2877 : Index := Scalar.indexCast arg0
  let c126 : Index := 126#32
  ![v2877.toNat, 126]
def k0_off128 (i : grid0.Coords) : Fin 2 → Nat :=
  let arg0 : BitVec 32 := BitVec.ofNat 32 (i 0).val
  let v2888 : Index := Scalar.indexCast arg0
  let c127 : Index := 127#32
  ![v2888.toNat, 127]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x2048 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S16x6144x1024 : Shape := ⟨3, ![16, 6144, 1024]⟩
abbrev S16x1024x2048 : Shape := ⟨3, ![16, 1024, 2048]⟩
abbrev S16x8x16 : Shape := ⟨3, ![16, 8, 16]⟩
abbrev S16x6144x2048 : Shape := ⟨3, ![16, 6144, 2048]⟩
abbrev S16x8x6144 : Shape := ⟨3, ![16, 8, 6144]⟩
abbrev S16x8x1x16 : Shape := ⟨4, ![16, 8, 1, 16]⟩
abbrev S16x8x128x16 : Shape := ⟨4, ![16, 8, 128, 16]⟩
abbrev S16x1024x16 : Shape := ⟨3, ![16, 1024, 16]⟩
abbrev S16x1024x16x1 : Shape := ⟨4, ![16, 1024, 16, 1]⟩
abbrev S16x1024x16x128 : Shape := ⟨4, ![16, 1024, 16, 128]⟩
abbrev S16x6144x8x128 : Shape := ⟨4, ![16, 6144, 8, 128]⟩
abbrev S16x6144x8 : Shape := ⟨3, ![16, 6144, 8]⟩
abbrev S16x6144x8x1 : Shape := ⟨4, ![16, 6144, 8, 1]⟩

abbrev nBuf : Space → Nat
  | .hbm => 6
  | .vmem => 6
  | .smem => 0
  | _ => 0

abbrev bufTy : (tb : Table) → Fin (tcTables nBuf tb) → BufTy
  | .hbm, ⟨0, _⟩ => ⟨S16x6144x1024, .bf16⟩
  | .hbm, ⟨1, _⟩ => ⟨S16x1024x2048, .fp8e4m3⟩
  | .hbm, ⟨2, _⟩ => ⟨S16x8x16, .f32⟩
  | .hbm, ⟨3, _⟩ => ⟨S16x6144x2048, .bf16⟩
  | .hbm, ⟨4, _⟩ => ⟨S16x6144x1024, .fp8e4m3⟩
  | .hbm, ⟨5, _⟩ => ⟨S16x8x6144, .f32⟩
  | .local _ .vmem, ⟨0, _⟩ => ⟨S16x6144x1024, .bf16⟩
  | .local _ .vmem, ⟨1, _⟩ => ⟨S16x1024x2048, .fp8e4m3⟩
  | .local _ .vmem, ⟨2, _⟩ => ⟨S16x8x16, .f32⟩
  | .local _ .vmem, ⟨3, _⟩ => ⟨S16x6144x2048, .bf16⟩
  | .local _ .vmem, ⟨4, _⟩ => ⟨S16x6144x1024, .fp8e4m3⟩
  | .local _ .vmem, ⟨5, _⟩ => ⟨S16x8x6144, .f32⟩
  | _, _ => ⟨S16x6144x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S16x6144x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x1024x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x8x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x6144x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x6144x1024 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x8x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Cell.lean ====
/- The kernel's body, one cell at a time: what it computes from one 128 x 128 cell of `x` or of `w`, as vector operations,
   at any float type. The body runs the same operations on every cell; here they are named once. -/
module

public import proofs.«01_k».proof.Proof.Gen.KernelIdeal

@[expose] public section

noncomputable section

namespace Cert.KernelIdeal.Cell

open Idealize.ShloMosaic Idealize.SL.Sem Cert.KernelIdeal Cert.KernelIdeal.Gen

variable {F : FTy → Type} [FloatOps F]

/-- The cell's values as float32. -/
def wide (v : Vec F S1x128x128 .bf16) : FVec F S128x128 .f32 :=
  extf .f32 (shapeCast S128x128 v shapeCasts_S1x128x128_S128x128) bitsLt_bf16_f32

/-- Each row's largest magnitude. -/
def amax (v : Vec F S1x128x128 .bf16) : FVec F S128 .f32 :=
  multiReduction .maximumf [1] S128 (absf (wide v)) 0xFF800000#32 reduces_S128x128_S128 (.inl rfl) rfl

/-- The 256 words whose only set bits are the exponent field's. -/
def words : IVec S1x256 32 :=
  shli (iota .tc S1x256 32 [1] iota_S1x256_d1_w32) (broadcast S1x256 23#32)

/-- Each row's largest word, read as a float, not above the row's largest magnitude over 448. -/
def field (v : Vec F S1x128x128 .bf16) : IVec S128 32 :=
  multiReductionI .maxsi [1] S128
    (select
      (cmpf .oge
        (broadcastTo S128x256
          (mulf (shapeCast S128x1 (amax v) shapeCasts_S128_S128x1) (broadcast S128x1 (Scalar.ofBits .f32 0x3B124925#32)))
          broadcasts_S128x1_S128x256)
        (broadcastTo S128x256 (bitcastToFloat (F := F) .f32 words) broadcasts_S1x256_S128x256))
      (broadcastTo S128x256 (shapeCast S1x256 words shapeCasts_S1x256_S1x256) broadcasts_S1x256_S128x256)
      (broadcast S128x256 0#32))
    2147483648#32 reduces_S128x256_S128 rfl

/-- Each row's scale as a word: the exponent one up, or the word of 1 for a row of zeros. -/
def word (v : Vec F S1x128x128 .bf16) : IVec S128x1 32 :=
  select (cmpi .eq (shapeCast S128x1 (field v) shapeCasts_S128_S128x1) (broadcast S128x1 0#32))
    (broadcast S128x1 1065353216#32)
    (addi (shapeCast S128x1 (field v) shapeCasts_S128_S128x1) (broadcast S128x1 8388608#32))

/-- Each row's scale. -/
def scale (v : Vec F S1x128x128 .bf16) : FVec F S128x1 .f32 :=
  bitcastToFloat .f32 (word v)

/-- The cell's codes: each value times its row's inverse scale, clipped to ±448. -/
def codes (v : Vec F S1x128x128 .bf16) : FVec F S128x128 .fp8e4m3 :=
  truncf .fp8e4m3
    (minimumf (broadcast S128x128 (Scalar.ofBits .f32 0x43E00000#32))
      (maximumf (broadcast S128x128 (Scalar.ofBits .f32 0xC3E00000#32))
        (mulf (wide v)
          (broadcastTo S128x128 (bitcastToFloat .f32 (subi (broadcast S128x1 2130706432#32) (word v)))
            broadcasts_S128x1_S128x128))))
    bitsLt_fp8e4m3_f32

/-- The codes times their scales. -/
def deq (v : Vec F S1x128x128 .bf16) : FVec F S128x128 .bf16 :=
  mulf (extf .bf16 (codes v) bitsLt_fp8e4m3_bf16)
    (broadcastTo S128x128 (truncf .bf16 (scale v) bitsLt_bf16_f32) broadcasts_S128x1_S128x128)

/-- One 128 x 128 block of the weights times its scale. -/
def weight (s : Elt F .f32) (w : Vec F S1x128x128 .fp8e4m3) : FVec F S128x128 .bf16 :=
  shapeCast S128x128
    (mulf (extf .bf16 (shapeCast S128x128 w shapeCasts_S1x128x128_S128x128) bitsLt_fp8e4m3_bf16)
      (broadcast S128x128 (Scalar.truncf .bf16 bitsLt_bf16_f32 s)))
    shapeCasts_S128x128_S128x128

/-- The codes as stored: a row of blocks in front. -/
def codesOut (v : Vec F S1x128x128 .bf16) : FVec F S1x128x128 .fp8e4m3 :=
  shapeCast S1x128x128 (codes v) shapeCasts_S128x128_S1x128x128

/-- Eight cells' scales side by side, turned, as stored. -/
def scaleOut (v : Fin 8 → Vec F S1x128x128 .bf16) : FVec F S1x8x128 .f32 :=
  shapeCast S1x8x128
    (transpose S8x128 [1, 0]
      (concatenate S128x8 1
        [⟨S128x1, scale (v 0)⟩, ⟨S128x1, scale (v 1)⟩, ⟨S128x1, scale (v 2)⟩, ⟨S128x1, scale (v 3)⟩,
          ⟨S128x1, scale (v 4)⟩, ⟨S128x1, scale (v 5)⟩, ⟨S128x1, scale (v 6)⟩, ⟨S128x1, scale (v 7)⟩]
        concatenates_S128x1_S128x1_S128x1_S128x1_S128x1_S128x1_S128x1_S128x1_S128x8_d1)
      transposes_S128x8_p1_0_S8x128)
    shapeCasts_S8x128_S1x8x128

/-- Eight cells side by side times the weights, as stored. -/
def yOut (v : Fin 8 → Vec F S1x128x128 .bf16) (W : Vec F S1024x2048 .bf16) : FVec F S1x128x2048 .bf16 :=
  shapeCast S1x128x2048
    (truncf .bf16
      (matmul dot_S128x1024_S1024x2048_S128x2048_1_0_0_1_n_n none
        (concatenate S128x1024 1
          [⟨S128x128, deq (v 0)⟩, ⟨S128x128, deq (v 1)⟩, ⟨S128x128, deq (v 2)⟩, ⟨S128x128, deq (v 3)⟩,
            ⟨S128x128, deq (v 4)⟩, ⟨S128x128, deq (v 5)⟩, ⟨S128x128, deq (v 6)⟩, ⟨S128x128, deq (v 7)⟩]
          concatenates_S128x128_S128x128_S128x128_S128x128_S128x128_S128x128_S128x128_S128x128_S128x1024_d1)
        W (constant S128x2048 .f32 0x00000000#32))
      bitsLt_bf16_f32)
    shapeCasts_S128x2048_S1x128x2048

end Cert.KernelIdeal.Cell

end
-- ==== Proof.Scale.lean ====
/- One group's scale, at the reals: the exponent the kernel finds by comparing with the 256 powers of two a float32 word can
   hold is the reference's rounded logarithm, so the kernel's two words denote `2 ^ e` and `2 ^ (-e)`. -/
module

public import Idealize.ShloMosaic.PureOps.Ideal
public import Idealize.ShloMosaic.PureOps.Ideal.Laws
public import Idealize.ShloMosaic.Lib.Pointwise
public import Idealize.ShloMosaic.Lib.IdealHost
public import Idealize.ShloMosaic.Lib.SortNet.Extract

@[expose] public section

noncomputable section

namespace Cert.Scale

open Idealize.ShloMosaic

/-- The word whose exponent field is `k`. -/
def wordAt (k : ℕ) : BitVec 32 := IntOp.shli .vector (BitVec.ofNat 32 k) 23#32

/-- The largest exponent-field word, read as a float, not above `q`. -/
def fieldOf (q : EReal) : BitVec 32 :=
  Finset.univ.fold IntOp.maxsi 2147483648#32 (fun k : Fin 256 => if Ideal.ofBits .f32 (wordAt k.val) ≤ q then wordAt k.val else 0#32)

/-- The scale as a word: the exponent one up, or the word of 1. -/
def wordOf (q : EReal) : BitVec 32 :=
  Scalar.select (IntOp.cmpi .eq (fieldOf q) 0#32) 1065353216#32 (IntOp.addi (fieldOf q) 8388608#32)

/-- The scale. -/
def scaleOf (q : EReal) : EReal := Ideal.ofBits .f32 (wordOf q)

/-- The inverse scale. -/
def invOf (q : EReal) : EReal := Ideal.ofBits .f32 (IntOp.subi 2130706432#32 (wordOf q))

/-- The reference's exponent of a group whose largest magnitude is `a` and whose largest magnitude over 448 is `q`. -/
def expOf (a q : EReal) : EReal :=
  if a = 0 then 0 else Ideal.liftRound Int.floor (Ideal.div (Ideal.log q) ((Real.log 2 : ℝ) : EReal)) + 1

/-- A group the claim covers: zero, or at least the least normal float32 and below `2 ^ 126`. -/
def InRange (q : EReal) : Prop :=
  q = 0 ∨ (Ideal.ofBits .f32 0x00800000#32 ≤ q ∧ q < Ideal.ofBits .f32 0x7E800000#32)

/-- The word of exponent field `k` as a signed integer; at 255 it still is positive. -/
theorem toInt_wordAt : ∀ k : Fin 256, (wordAt k.val).toInt = (k.val : ℤ) * 8388608 := by decide

/-- Its sign bit is clear. -/
theorem sign_wordAt : ∀ k : Fin 256, ((wordAt k.val).extractLsb' 31 1 == 1#1) = false := by decide

/-- Its exponent field is `k`. -/
theorem exp_wordAt : ∀ k : Fin 256, ((wordAt k.val).extractLsb' 23 8).toNat = k.val := by decide

/-- Its fraction is zero. -/
theorem frac_wordAt : ∀ k : Fin 256, ((wordAt k.val).extractLsb' 0 23).toNat = 0 := by decide

/-- What the word of exponent field `k` denotes. -/
theorem ofBits_wordAt (k : Fin 256) : Ideal.ofBits .f32 (wordAt k.val)
    = if k.val = 255 then ⊤ else if k.val = 0 then 0 else (((2 : ℝ) ^ ((k.val : ℤ) - 127) : ℝ) : EReal) := by
  show Ideal.ieee 8 23 (wordAt k.val) = _
  unfold Ideal.ieee
  simp only [Nat.reduceAdd, sign_wordAt k, exp_wordAt k, frac_wordAt k]
  norm_num
  split
  · rfl
  · split
    · simp
    · congr 1
      rw [show ((k.val : ℤ) - 127) = 23 + ((k.val : ℤ) - 127 - 23) by ring, zpow_add₀ (by norm_num : (2 : ℝ) ≠ 0)]
      norm_num

/-- For `q` between `2 ^ (E - 127)` and `2 ^ (E - 126)` the words not above `q` are those up to `E`. -/
theorem wordAt_le (r : ℝ) (E : Fin 256) (hE1 : 1 ≤ E.val) (hE2 : E.val ≤ 253)
    (hlo : (2 : ℝ) ^ ((E.val : ℤ) - 127) ≤ r) (hhi : r < (2 : ℝ) ^ ((E.val : ℤ) - 126)) (k : Fin 256) :
    Ideal.ofBits .f32 (wordAt k.val) ≤ (r : EReal) ↔ k.val ≤ E.val := by
  have hr : 0 < r := lt_of_lt_of_le (by positivity) hlo
  rw [ofBits_wordAt]
  split
  · rename_i h
    constructor
    · intro h'; exact absurd h' (by simp)
    · intro h'; omega
  · split
    · rename_i h
      constructor
      · intro _; omega
      · intro _; exact_mod_cast hr.le
    · rw [EReal.coe_le_coe_iff]
      constructor
      · intro h
        have := lt_of_le_of_lt h hhi
        rw [zpow_lt_zpow_iff_right₀ (by norm_num : (1 : ℝ) < 2)] at this
        omega
      · intro h
        refine le_trans ?_ hlo
        exact zpow_le_zpow_right₀ (by norm_num : (1 : ℝ) ≤ 2) (by omega)

/-- The signed largest of a family of words, as an integer. -/
theorem toInt_fold (g : Fin 256 → BitVec 32) (b : BitVec 32) :
    (Finset.univ.fold IntOp.maxsi b g).toInt = Finset.univ.fold max b.toInt (fun k => (g k).toInt) :=
  (Finset.fold_hom (s := Finset.univ) (f := g) (b := b) (op := IntOp.maxsi) (op' := max) (m := BitVec.toInt)
    (fun x y => SortNet.toInt_maxsi x y)).symm

/-- If the words not above `q` are those up to `E`, the field found is `E`. -/
theorem fieldOf_eq (q : EReal) (E : Fin 256) (h : ∀ k : Fin 256, Ideal.ofBits .f32 (wordAt k.val) ≤ q ↔ k.val ≤ E.val) :
    fieldOf q = wordAt E.val := by
  apply BitVec.eq_of_toInt_eq
  unfold fieldOf
  rw [toInt_fold, toInt_wordAt]
  apply le_antisymm
  · rw [Finset.fold_max_le]
    refine ⟨by rw [show (2147483648#32).toInt = -2147483648 by decide]; omega, fun k _ => ?_⟩
    split
    · rename_i hk
      rw [toInt_wordAt]; have := (h k).mp hk; omega
    · rw [show (0#32).toInt = 0 by decide]; omega
  · rw [Finset.le_fold_max]
    refine .inr ⟨E, Finset.mem_univ _, ?_⟩
    rw [if_pos ((h E).mpr le_rfl), toInt_wordAt]

/-- The words of a nonzero field. -/
theorem words_of_field : ∀ E : Fin 256, 1 ≤ E.val → E.val ≤ 252 →
    Scalar.select (IntOp.cmpi .eq (wordAt E.val) 0#32) 1065353216#32 (IntOp.addi (wordAt E.val) 8388608#32) = wordAt (E.val + 1)
      ∧ IntOp.subi 2130706432#32 (wordAt (E.val + 1)) = wordAt (253 - E.val) := by decide

/-- The least normal float32. -/
theorem low_eq : Ideal.ofBits .f32 0x00800000#32 = (((2 : ℝ) ^ (-126 : ℤ) : ℝ) : EReal) := by
  have := ofBits_wordAt 1
  rw [show wordAt (1 : Fin 256).val = 0x00800000#32 by decide] at this
  rw [this]; norm_num

/-- `2 ^ 126`. -/
theorem high_eq : Ideal.ofBits .f32 0x7E800000#32 = (((2 : ℝ) ^ (126 : ℤ) : ℝ) : EReal) := by
  have := ofBits_wordAt 253
  rw [show wordAt (253 : Fin 256).val = 0x7E800000#32 by decide] at this
  rw [this]
  simp only [show (253 : Fin 256).val = 253 from rfl]
  norm_num

/-- The rounded logarithm of a real between `2 ^ n` and `2 ^ (n + 1)`. -/
theorem floor_log (r : ℝ) (n : ℤ) (hlo : (2 : ℝ) ^ n ≤ r) (hhi : r < (2 : ℝ) ^ (n + 1)) :
    Ideal.liftRound Int.floor (Ideal.div (Ideal.log (r : EReal)) ((Real.log 2 : ℝ) : EReal)) = (((n : ℝ)) : EReal) := by
  have hr : 0 < r := lt_of_lt_of_le (by positivity) hlo
  have h2 : 0 < Real.log 2 := Real.log_pos (by norm_num)
  rw [Ideal.log_coe, if_neg (not_le.mpr hr)]
  unfold Ideal.div
  rw [if_neg (by exact_mod_cast h2.ne'), ← EReal.coe_inv, ← EReal.coe_mul]
  show (((⌊Real.log r * (Real.log 2)⁻¹⌋ : ℤ) : ℝ) : EReal) = _
  have hf : ⌊Real.log r * (Real.log 2)⁻¹⌋ = n := by
    rw [Int.floor_eq_iff, ← div_eq_mul_inv, le_div_iff₀ h2, div_lt_iff₀ h2]
    constructor
    · rw [← Real.log_zpow]; exact Real.log_le_log (by positivity) hlo
    · have := Real.log_lt_log hr hhi
      rw [Real.log_zpow] at this
      exact_mod_cast this
  rw [hf]

/-- Every group in range has its exponent: the kernel's words denote `2 ^ e` and `2 ^ (-e)`. -/
theorem scale_inv (a q : EReal) (h0 : a = 0 ↔ q = 0) (hq : InRange q) :
    scaleOf q = Ideal.exp2 (expOf a q) ∧ invOf q = Ideal.exp2 (0 - expOf a q) := by
  rcases hq with rfl | ⟨hlo, hhi⟩
  · have ha : a = 0 := h0.mpr rfl
    have hf : fieldOf 0 = wordAt 0 := fieldOf_eq 0 0 fun k => by
      rw [ofBits_wordAt]
      have hk := k.isLt
      split
      · rename_i h; simp [h]
      · split
        · rename_i h; simp [h]
        · rename_i h
          constructor
          · intro h'
            have : (((2 : ℝ) ^ ((k.val : ℤ) - 127) : ℝ) : EReal) ≤ ((0 : ℝ) : EReal) := h'
            rw [EReal.coe_le_coe_iff] at this
            exact absurd this (not_le.mpr (by positivity))
          · intro h'; exact absurd (Nat.le_zero.mp h') h
    have hw : wordOf 0 = wordAt (127 : Fin 256).val := by unfold wordOf; rw [hf]; decide
    have hs : IntOp.subi 2130706432#32 (wordAt (127 : Fin 256).val) = wordAt (127 : Fin 256).val := by decide
    have hv : Ideal.ofBits .f32 (wordAt (127 : Fin 256).val) = ((1 : ℝ) : EReal) := by
      rw [ofBits_wordAt]; simp only [show (127 : Fin 256).val = 127 from rfl]; norm_num
    have he : Ideal.exp2 ((0 : ℝ) : EReal) = ((1 : ℝ) : EReal) := by
      rw [Ideal.exp2_coe]; congr 1; exact Real.rpow_zero 2
    unfold scaleOf invOf expOf
    rw [hw, hs, hv, if_pos ha]
    refine ⟨he.symm, ?_⟩
    rw [sub_zero]; exact he.symm
  · rw [low_eq] at hlo
    rw [high_eq] at hhi
    induction q with
    | bot => exact absurd hlo (by simp)
    | top => exact absurd hhi (by simp)
    | coe r =>
      rw [EReal.coe_le_coe_iff] at hlo
      rw [EReal.coe_lt_coe_iff] at hhi
      have hr : 0 < r := lt_of_lt_of_le (by positivity) hlo
      have ha : a ≠ 0 := fun h => by
        have := h0.mp h
        exact hr.ne' (by exact_mod_cast this)
      obtain ⟨n, hn1, hn2⟩ := exists_mem_Ico_zpow (x := r) (y := 2) hr (by norm_num)
      have hn3 : -126 ≤ n := by
        have := lt_of_le_of_lt hlo hn2
        rw [zpow_lt_zpow_iff_right₀ (by norm_num : (1 : ℝ) < 2)] at this; omega
      have hn4 : n < 126 := by
        have := lt_of_le_of_lt hn1 hhi
        rwa [zpow_lt_zpow_iff_right₀ (by norm_num : (1 : ℝ) < 2)] at this
      obtain ⟨E, hE⟩ : ∃ E : Fin 256, (E.val : ℤ) = n + 127 := ⟨⟨(n + 127).toNat, by omega⟩, by simp; omega⟩
      have hf : fieldOf (r : EReal) = wordAt E.val :=
        fieldOf_eq _ E (wordAt_le r E (by omega) (by omega)
          (by rw [show (E.val : ℤ) - 127 = n by omega]; exact hn1)
          (by rw [show (E.val : ℤ) - 126 = n + 1 by omega]; exact hn2))
      obtain ⟨hw, hs⟩ := words_of_field E (by omega) (by omega)
      have he : expOf a (r : EReal) = (((n + 1 : ℤ) : ℝ) : EReal) := by
        unfold expOf
        rw [if_neg ha, floor_log r n hn1 hn2]
        push_cast; rfl
      have hv (j : ℕ) (hj : j < 255) (hj0 : j ≠ 0) :
          Ideal.ofBits .f32 (wordAt j) = (((2 : ℝ) ^ ((j : ℤ) - 127) : ℝ) : EReal) := by
        have := ofBits_wordAt ⟨j, by omega⟩
        rw [if_neg (by simp; omega), if_neg (by simpa using hj0)] at this
        exact this
      unfold scaleOf invOf
      have hw' : wordOf (r : EReal) = wordAt (E.val + 1) := by unfold wordOf; rw [hf]; exact hw
      have hv1 := hv (E.val + 1) (by omega) (by omega)
      have hv2 := hv (253 - E.val) (by omega) (by omega)
      rw [hw', hs, he]
      constructor
      · have e1 : (2 : ℝ) ^ (((E.val + 1 : ℕ) : ℤ) - 127) = Real.rpow 2 ((n + 1 : ℤ) : ℝ) := by
          rw [show ((E.val + 1 : ℕ) : ℤ) - 127 = n + 1 by push_cast; omega]
          exact (Real.rpow_intCast 2 (n + 1)).symm
        rw [hv1, e1]; rfl
      · have e2 : (2 : ℝ) ^ (((253 - E.val : ℕ) : ℤ) - 127) = Real.rpow 2 (-((n + 1 : ℤ) : ℝ)) := by
          rw [show ((253 - E.val : ℕ) : ℤ) - 127 = -(n + 1) by omega, ← Int.cast_neg]
          exact (Real.rpow_intCast 2 (-(n + 1))).symm
        rw [hv2, e2, zero_sub, ← EReal.coe_neg]; rfl

end Cert.Scale

end
-- ==== Proof.CellAt.lean ====
/- The cell functions at one index, at the reals: each is a scalar function of the cell's values along the index's row. -/
module

public import proofs.«01_k».proof.Proof.Cell
public import proofs.«01_k».proof.Proof.Scale
public import Idealize.ShloMosaic.Lib.Pointwise
public import Idealize.ShloMosaic.Lib.MatmulPlain
public import Idealize.ShloMosaic.Lib.Pipeline.Value

@[expose] public section

noncomputable section

namespace Cert.KernelIdeal.Cell

open Idealize.ShloMosaic Idealize.ShloMosaic.Pointwise Idealize.SL.Sem Cert.KernelIdeal Cert.KernelIdeal.Gen Cert.Scale

/-- A group's largest magnitude. -/
def amaxOf (f : Fin 128 → EReal) : EReal :=
  Finset.univ.fold max (Ideal.ofBits .f32 0xFF800000#32) (fun k => max (f k) (-(f k)))

/-- A group's largest magnitude over 448. -/
def qOf (f : Fin 128 → EReal) : EReal := amaxOf f * Ideal.ofBits .f32 0x3B124925#32

/-- A value times the inverse scale, clipped to ±448. -/
def clip (x inv : EReal) : EReal :=
  min (Ideal.ofBits .f32 0x43E00000#32) (max (Ideal.ofBits .f32 0xC3E00000#32) (x * inv))

/-- Row `r` of a cell. -/
def rowAt (v : Vec Ideal S1x128x128 .bf16) (r : Fin 128) (k : Fin 128) : EReal := v (ix3 0 r k)

/-- A row's largest magnitude. -/
theorem amax_at (v : Vec Ideal S1x128x128 .bf16) (r : Fin 128) : amax (F := Ideal) v (ix1 r) = amaxOf (rowAt v r) := by
  simp only [amax, wide, pointwise]
  unfold amaxOf
  exact Finset.fold_congr fun k _ => rfl

/-- The word compared with in lane `k` is the one of exponent field `k`. -/
theorem words_at (k : Fin 256) : words (ix2 0 k) = wordAt k.val := by
  simp only [words, pointwise]
  unfold wordAt
  congr 2
  show 0 * 256 + k.val = k.val
  omega

/-- A row's exponent field: the largest of the words not above its magnitude over 448. -/
theorem field_at (v : Vec Ideal S1x128x128 .bf16) (r : Fin 128) : field (F := Ideal) v (ix1 r) = fieldOf (qOf (rowAt v r)) := by
  have hq : qOf (rowAt v r) = amax (F := Ideal) v (ix1 r) * Ideal.ofBits .f32 0x3B124925#32 := by rw [amax_at]; rfl
  unfold fieldOf field
  rw [hq]
  generalize amax (F := Ideal) v = a at *
  simp only [← words_at]
  generalize words = w at *
  simp only [pointwise, OfNat.ofNat_ne_one, ↓reduceDIte]

/-- A row's scale, as a word. -/
theorem word_at (v : Vec Ideal S1x128x128 .bf16) (r : Fin 128) : word (F := Ideal) v (ix2 r 0) = wordOf (qOf (rowAt v r)) := by
  unfold wordOf
  rw [← field_at]
  unfold word
  generalize field (F := Ideal) v = e
  simp only [pointwise]

/-- A row's scale. -/
theorem scale_at (v : Vec Ideal S1x128x128 .bf16) (r : Fin 128) : scale (F := Ideal) v (ix2 r 0) = scaleOf (qOf (rowAt v r)) := by
  unfold scale scaleOf
  rw [← word_at]; rfl

/-- A row's codes: its values times the inverse scale, clipped. -/
theorem codes_at (v : Vec Ideal S1x128x128 .bf16) (r l : Fin 128) :
    codes (F := Ideal) v (ix2 r l) = clip (v (ix3 0 r l)) (invOf (qOf (rowAt v r))) := by
  unfold invOf
  rw [← word_at]
  simp only [codes, wide, pointwise]
  rfl

/-- The codes times the scale again. -/
theorem deq_at (v : Vec Ideal S1x128x128 .bf16) (r l : Fin 128) :
    deq (F := Ideal) v (ix2 r l) = clip (v (ix3 0 r l)) (invOf (qOf (rowAt v r))) * scaleOf (qOf (rowAt v r)) := by
  rw [← codes_at, ← scale_at]
  simp only [deq, pointwise]
  rfl

/-- A weight times its block's scale. -/
theorem weight_at (s : EReal) (w : Vec Ideal S1x128x128 .fp8e4m3) (r n : Fin 128) :
    weight (F := Ideal) s w (ix2 r n) = w (ix3 0 r n) * s := by
  simp only [weight, pointwise]

/-- The codes as stored. -/
theorem codesOut_at (v : Vec Ideal S1x128x128 .bf16) (r l : Fin 128) :
    codesOut (F := Ideal) v (ix3 0 r l) = clip (v (ix3 0 r l)) (invOf (qOf (rowAt v r))) := by
  rw [← codes_at]
  simp only [codesOut, pointwise]

/-- The scales as stored: groups along the second axis, rows along the third. -/
theorem scaleOut_at (v : Fin 8 → Vec Ideal S1x128x128 .bf16) (g : Fin 8) (r : Fin 128) :
    scaleOut (F := Ideal) v (ix3 0 g r) = scaleOf (qOf (rowAt (v g) r)) := by
  rw [← scale_at]
  unfold scaleOut
  refine (Idealize.ShloMosaic.shapeCast_apply _ _ _ (ix2 g r) ?_).trans ?_
  · rw [Shape.rowMajor_val_three, Shape.rowMajor_val_two]
    show g.val * 128 + r.val = (0 * 8 + g.val) * 128 + r.val
    omega
  refine (Idealize.ShloMosaic.transpose_apply _ _ _ _ (ix2 r g) ?_).trans ?_
  · intro b
    match b with
    | ⟨0, _⟩ => rfl
    | ⟨1, _⟩ => rfl
  refine Idealize.ShloMosaic.concatenate_ofFn_apply (t := S128x8) (s₁ := S128x1) 1 (fun n : Fin 8 => scale (v n)) _ rfl 1 rfl _ g ?_ _ ?_ ?_
  · show g.val / 1 = g.val; omega
  · show 0 = g.val % 1; omega
  · intro b hb
    match b with
    | ⟨0, _⟩ => rfl
    | ⟨1, _⟩ => exact absurd rfl hb

/-- Eight cells side by side read at a column: the cell the column falls in, at its place there. -/
theorem cat_at (v : Fin 8 → Vec Ideal S1x128x128 .bf16) (r : Fin 128) (k : Fin 1024) (g : Fin 8) (l : Fin 128)
    (hk : k.val = 128 * g.val + l.val) :
    concatenate S128x1024 1
      [⟨S128x128, deq (F := Ideal) (v 0)⟩, ⟨S128x128, deq (v 1)⟩, ⟨S128x128, deq (v 2)⟩, ⟨S128x128, deq (v 3)⟩,
        ⟨S128x128, deq (v 4)⟩, ⟨S128x128, deq (v 5)⟩, ⟨S128x128, deq (v 6)⟩, ⟨S128x128, deq (v 7)⟩]
      concatenates_S128x128_S128x128_S128x128_S128x128_S128x128_S128x128_S128x128_S128x128_S128x1024_d1 (ix2 r k)
      = deq (v g) (ix2 r l) := by
  have := l.isLt
  refine Idealize.ShloMosaic.concatenate_ofFn_apply (t := S128x1024) (s₁ := S128x128) 1 (fun n : Fin 8 => deq (v n)) _ rfl 128 rfl _ g ?_ _ ?_ ?_
  · show k.val / 128 = g.val; omega
  · show l.val = k.val % 128; omega
  · intro b hb
    match b with
    | ⟨0, _⟩ => rfl
    | ⟨1, _⟩ => exact absurd rfl hb

/-- A row of eight cells times the weights: the sum over the 1024 columns. -/
theorem yOut_at (v : Fin 8 → Vec Ideal S1x128x128 .bf16) (W : Vec Ideal S1024x2048 .bf16) (r : Fin 128) (o : Fin 2048) :
    yOut (F := Ideal) v W (ix3 0 r o)
      = ∑ k : Fin 1024, deq (F := Ideal) (v ⟨k.val / 128, by have := k.isLt; omega⟩) (ix2 r ⟨k.val % 128, by omega⟩) * W (ix2 k o) := by
  unfold yOut
  have hc (k : Fin 1024) := cat_at v r k ⟨k.val / 128, by have := k.isLt; omega⟩ ⟨k.val % 128, by omega⟩ (by
    show k.val = 128 * (k.val / 128) + k.val % 128; omega)
  simp only [← hc]
  generalize concatenate S128x1024 1 _ _ = X
  simp only [pointwise]
  exact zero_add _

end Cert.KernelIdeal.Cell

end
-- ==== Proof.Pieces.lean ====
/- What the kernel's body stores, as four lists of tiles: the generated run names each tile's payload apart; here each list is
   one function of the tile's number over the cell functions of `Cell`. -/
module

public import proofs.«01_k».proof.Proof.Cell
public import proofs.«01_k».proof.Proof.Gen.KernelIdeal.Frame

@[expose] public section

set_option maxRecDepth 100000

noncomputable section

namespace Cert.KernelIdeal.Pieces

open Idealize.ShloMosaic Idealize.ShloMosaic.Tactic Idealize.SL.Sem Cert.KernelIdeal Cert.KernelIdeal.Gen

variable {F : FTy → Type} [FloatOps F]

/-- Cell `k` of a block of `x`: 128 rows from `128 (k / 8)`, 128 lanes from `128 (k % 8)`. -/
theorem inbX (k : Fin 32) (a : Fin 3) :
    (![0, 128 * (k.val / 8), 128 * (k.val % 8)] : Fin 3 → Nat) a + S1x128x128.size a ≤ S1x512x1024.size a := by
  have := k.isLt
  match a with
  | ⟨0, _⟩ => show 0 + 1 ≤ 1; omega
  | ⟨1, _⟩ => show 128 * (k.val / 8) + 128 ≤ 512; omega
  | ⟨2, _⟩ => show 128 * (k.val % 8) + 128 ≤ 1024; omega

/-- Rows `128 k` to `128 k + 127` of a block of the product. -/
theorem inbY (k : Fin 4) (a : Fin 3) :
    (![0, 128 * k.val, 0] : Fin 3 → Nat) a + S1x128x2048.size a ≤ S1x512x2048.size a := by
  have := k.isLt
  match a with
  | ⟨0, _⟩ => show 0 + 1 ≤ 1; omega
  | ⟨1, _⟩ => show 128 * k.val + 128 ≤ 512; omega
  | ⟨2, _⟩ => show 0 + 2048 ≤ 2048; omega

/-- Columns `128 k` to `128 k + 127` of a block of the scales. -/
theorem inbS (k : Fin 4) (a : Fin 3) :
    (![0, 0, 128 * k.val] : Fin 3 → Nat) a + S1x8x128.size a ≤ S1x8x512.size a := by
  have := k.isLt
  match a with
  | ⟨0, _⟩ => show 0 + 1 ≤ 1; omega
  | ⟨1, _⟩ => show 0 + 8 ≤ 8; omega
  | ⟨2, _⟩ => show 128 * k.val + 128 ≤ 512; omega

/-- Block `k` of the weights: 128 rows from `128 (k / 16)`, 128 columns from `128 (k % 16)`. -/
theorem inbW (k : Fin 128) (a : Fin 3) :
    (![0, 128 * (k.val / 16), 128 * (k.val % 16)] : Fin 3 → Nat) a + S1x128x128.size a ≤ S1x1024x2048.size a := by
  have := k.isLt
  match a with
  | ⟨0, _⟩ => show 0 + 1 ≤ 1; omega
  | ⟨1, _⟩ => show 128 * (k.val / 16) + 128 ≤ 1024; omega
  | ⟨2, _⟩ => show 128 * (k.val % 16) + 128 ≤ 2048; omega

/-- The same block in the scratch. -/
theorem inbD (k : Fin 128) (a : Fin 2) :
    (![128 * (k.val / 16), 128 * (k.val % 16)] : Fin 2 → Nat) a + S128x128.size a ≤ S1024x2048.size a := by
  have := k.isLt
  match a with
  | ⟨0, _⟩ => show 128 * (k.val / 16) + 128 ≤ 1024; omega
  | ⟨1, _⟩ => show 128 * (k.val % 16) + 128 ≤ 2048; omega

/-- The scale of block `k` of the head the point works on. -/
theorem inbR (i : grid0.Coords) (k : Fin 128) (a : Fin 2) :
    (![(Scalar.indexCast (BitVec.ofNat 32 (i 0).val) : Index).toNat, k.val] : Fin 2 → Nat) a + S1x1.size a ≤ S16x128.size a := by
  have := k.isLt
  have hi : (i 0).val < 16 := (i 0).isLt
  match a with
  | ⟨0, _⟩ =>
    show (BitVec.ofNat 32 (i 0).val).toNat + 1 ≤ 16
    rw [BitVec.toNat_ofNat]; omega
  | ⟨1, _⟩ => show k.val + 1 ≤ 128; omega

/-- The cell of `x` as the body loads it. -/
def xload (M : Memref sig .tc .vmem S1x512x1024 .bf16) (h : M.IsWhole) (x : Vec F S1x512x1024 .bf16) (k : Fin 32) :
    Vec F S1x128x128 .bf16 :=
  View.readAt (Elt F) M.view (Rect.unit (s := S1x512x1024) ![0, 128 * (k.val / 8), 128 * (k.val % 8)] S1x128x128.size (inbX k)).toLoadRect
    (h.unread x)

/-- The block of `w` as the body loads it. -/
def wload (M : Memref sig .tc .vmem S1x1024x2048 .fp8e4m3) (h : M.IsWhole) (x : Vec F S1x1024x2048 .fp8e4m3) (k : Fin 128) :
    Vec F S1x128x128 .fp8e4m3 :=
  View.readAt (Elt F) M.view (Rect.unit (s := S1x1024x2048) ![0, 128 * (k.val / 16), 128 * (k.val % 16)] S1x128x128.size (inbW k)).toLoadRect
    (h.unread x)

/-- The block's scale as the body loads it. -/
def sload (i : grid0.Coords) (M : Memref sig .tc .smem S16x128 .f32) (h : M.IsWhole) (x : Vec F S16x128 .f32) (k : Fin 128) :
    Elt F .f32 :=
  View.readAt (Elt F) M.view
    (Rect.unit (s := S16x128) ![(Scalar.indexCast (BitVec.ofNat 32 (i 0).val) : Index).toNat, k.val] S1x1.size (inbR i k)).toLoadRect
    (h.unread x) (Shape.Idx.first (s := S1x1) (by decide))

/-- Row-block `c`'s eight cells. -/
def rowOf (c : Fin 4) (g : Fin 8) : Fin 32 := ⟨8 * c.val + g.val, by have := c.isLt; have := g.isLt; omega⟩

/-- The codes' tiles, the last store first. -/
def codesL (f : Fin 32 → Vec F S1x128x128 .bf16) : List (View.Piece (Elt F) S1x512x1024 .fp8e4m3) :=
  List.ofFn fun k : Fin 32 =>
    ⟨Rect.unit (s := S1x512x1024) ![0, 128 * (k.rev.val / 8), 128 * (k.rev.val % 8)] S1x128x128.size (inbX k.rev),
      Cell.codesOut (f k.rev)⟩

/-- The scales' tiles, the last store first. -/
def scaleL (f : Fin 32 → Vec F S1x128x128 .bf16) : List (View.Piece (Elt F) S1x8x512 .f32) :=
  List.ofFn fun k : Fin 4 =>
    ⟨Rect.unit (s := S1x8x512) ![0, 0, 128 * k.rev.val] S1x8x128.size (inbS k.rev),
      Cell.scaleOut fun g => f (rowOf k.rev g)⟩

/-- The product's tiles, the last store first. -/
def yL (f : Fin 32 → Vec F S1x128x128 .bf16) (W : Vec F S1024x2048 .bf16) : List (View.Piece (Elt F) S1x512x2048 .bf16) :=
  List.ofFn fun k : Fin 4 =>
    ⟨Rect.unit (s := S1x512x2048) ![0, 128 * k.rev.val, 0] S1x128x2048.size (inbY k.rev),
      Cell.yOut (fun g => f (rowOf k.rev g)) W⟩

/-- The scratch's tiles, the last store first. -/
def scratchL (s : Fin 128 → Elt F .f32) (w : Fin 128 → Vec F S1x128x128 .fp8e4m3) : List (View.Piece (Elt F) S1024x2048 .bf16) :=
  List.ofFn fun k : Fin 128 =>
    ⟨Rect.unit (s := S1024x2048) ![128 * (k.rev.val / 16), 128 * (k.rev.val % 16)] S128x128.size (inbD k.rev),
      Cell.weight (s k.rev) (w k.rev)⟩

section
variable (c : Dev nD) (i : grid0.Coords) (arg2 : Memref sig .tc .smem S16x128 .f32) (harg2 : arg2.IsWhole) (arg3 : Memref sig .tc .vmem S1x512x1024 .bf16) (harg3 : arg3.IsWhole) (arg4 : Memref sig .tc .vmem S1x1024x2048 .fp8e4m3) (harg4 : arg4.IsWhole) (arg5 : Memref sig .tc .vmem S1x512x2048 .bf16) (harg5 : arg5.IsWhole) (arg6 : Memref sig .tc .vmem S1x512x1024 .fp8e4m3) (harg6 : arg6.IsWhole) (arg7 : Memref sig .tc .vmem S1x8x512 .f32) (harg7 : arg7.IsWhole) (arg8 : Memref sig .tc .vmem S1024x2048 .bf16) (harg8 : arg8.IsWhole)
  (x0 : Vec F S16x128 .f32) (x1 : Vec F S1x512x1024 .bf16) (x2 : Vec F S1x1024x2048 .fp8e4m3)

/-- The whole scratch's rectangle lies in the scratch. -/
theorem inbAll (a : Fin 2) : (![0, 0] : Fin 2 → Nat) a + S1024x2048.size a ≤ S1024x2048.size a := by
  match a with
  | ⟨0, _⟩ => show 0 + 1024 ≤ 1024; omega
  | ⟨1, _⟩ => show 0 + 2048 ≤ 2048; omega

/-- Where the scratch is written first: the codes' tiles. -/
theorem codes_A (hc0 : cond0_0 i) :
    (kernelRun0_A c i arg2 harg2 arg3 harg3 arg4 harg4 arg5 harg5 arg6 harg6 arg7 harg7 arg8 harg8 hc0 x0 x1 x2).2.1
      = codesL (xload arg3 harg3 x1) := by
  sl_kernel_rfl

/-- Where the scratch is written first: the scales' tiles. -/
theorem scale_A (hc0 : cond0_0 i) :
    (kernelRun0_A c i arg2 harg2 arg3 harg3 arg4 harg4 arg5 harg5 arg6 harg6 arg7 harg7 arg8 harg8 hc0 x0 x1 x2).2.2.1
      = scaleL (xload arg3 harg3 x1) := by
  sl_kernel_rfl

/-- Where the scratch is written first: the scratch's tiles. -/
theorem scratch_A (hc0 : cond0_0 i) :
    (kernelRun0_A c i arg2 harg2 arg3 harg3 arg4 harg4 arg5 harg5 arg6 harg6 arg7 harg7 arg8 harg8 hc0 x0 x1 x2).2.2.2.1
      = scratchL (sload i arg2 harg2 x0) (wload arg4 harg4 x2) := by
  sl_kernel_rfl

/-- Where the scratch is written first: the product's tiles, over the scratch just written. -/
theorem y_A (hc0 : cond0_0 i) :
    (kernelRun0_A c i arg2 harg2 arg3 harg3 arg4 harg4 arg5 harg5 arg6 harg6 arg7 harg7 arg8 harg8 hc0 x0 x1 x2).1
      = yL (xload arg3 harg3 x1)
          (arg8.view.readCov (scratchL (sload i arg2 harg2 x0) (wload arg4 harg4 x2))
            (Rect.unit (s := S1024x2048) ![0, 0] S1024x2048.size inbAll).toLoadRect) := by
  sl_kernel_rfl

/-- Where the scratch is carried: the codes' tiles. -/
theorem codes_B (hc0 : ¬cond0_0 i) (xs : Vec F S1024x2048 .bf16) :
    (kernelRun0_B c i arg2 harg2 arg3 harg3 arg4 harg4 arg5 harg5 arg6 harg6 arg7 harg7 arg8 harg8 hc0 x0 x1 x2 xs).2.1
      = codesL (xload arg3 harg3 x1) := by
  sl_kernel_rfl

/-- Where the scratch is carried: the scales' tiles. -/
theorem scale_B (hc0 : ¬cond0_0 i) (xs : Vec F S1024x2048 .bf16) :
    (kernelRun0_B c i arg2 harg2 arg3 harg3 arg4 harg4 arg5 harg5 arg6 harg6 arg7 harg7 arg8 harg8 hc0 x0 x1 x2 xs).2.2.1
      = scaleL (xload arg3 harg3 x1) := by
  sl_kernel_rfl

/-- Where the scratch is carried: the product's tiles, over what the scratch holds. -/
theorem y_B (hc0 : ¬cond0_0 i) (xs : Vec F S1024x2048 .bf16) :
    (kernelRun0_B c i arg2 harg2 arg3 harg3 arg4 harg4 arg5 harg5 arg6 harg6 arg7 harg7 arg8 harg8 hc0 x0 x1 x2 xs).1
      = yL (xload arg3 harg3 x1)
          (View.readAt (Elt F) arg8.view (Rect.unit (s := S1024x2048) ![0, 0] S1024x2048.size inbAll).toLoadRect (harg8.unread xs)) := by
  sl_kernel_rfl

end

end Cert.KernelIdeal.Pieces

end
-- ==== Proof.Blocks.lean ====
/- What the kernel's body leaves in each of its blocks, at the reals and at one index of the block: the tiles of `Pieces` put
   together. The codes and the scales depend on the block of `x` alone, the product on it and on the weights in the scratch. -/
module

public import proofs.«01_k».proof.Proof.CellAt
public import proofs.«01_k».proof.Proof.Pieces
public import Idealize.ShloMosaic.Lib.WholeRead
public import Idealize.ShloMosaic.Lib.Pipeline.FrameBody

@[expose] public section

set_option maxRecDepth 100000

noncomputable section

namespace Cert.KernelIdeal.Blocks

open Idealize.ShloMosaic Idealize.SL.Sem Cert.KernelIdeal Cert.KernelIdeal.Gen Cert.KernelIdeal.Cell
  Cert.KernelIdeal.Pieces Cert.Scale

/-- Group `g` of row `t` of a block of `x`. -/
def rowX (x : Vec Ideal S1x512x1024 .bf16) (t : Fin 512) (g : Fin 8) (l : Fin 128) : EReal :=
  x (ix3 0 t ⟨128 * g.val + l.val, by have := g.isLt; have := l.isLt; omega⟩)

/-- The group a column falls in. -/
def grp (k : Fin 1024) : Fin 8 := ⟨k.val / 128, by have := k.isLt; omega⟩

/-- The code of row `t`, column `k` of a block of `x`. -/
def codeAt (x : Vec Ideal S1x512x1024 .bf16) (t : Fin 512) (k : Fin 1024) : EReal :=
  clip (x (ix3 0 t k)) (invOf (qOf (rowX x t (grp k))))

/-- The scale of group `g` of row `t` of a block of `x`. -/
def scaleAt (x : Vec Ideal S1x512x1024 .bf16) (g : Fin 8) (t : Fin 512) : EReal := scaleOf (qOf (rowX x t g))

/-- Row `t` of a block of `x`, coded and scaled back, times column `o` of the weights. -/
def yAt (x : Vec Ideal S1x512x1024 .bf16) (W : Vec Ideal S1024x2048 .bf16) (t : Fin 512) (o : Fin 2048) : EReal :=
  ∑ k : Fin 1024, codeAt x t k * scaleAt x (grp k) t * W (ix2 k o)

/-- The block of weights entry `(r, o)` falls in, row-major among 8 x 16. -/
def blkOf (r : Fin 1024) (o : Fin 2048) : Fin 128 :=
  ⟨16 * (r.val / 128) + o.val / 128, by have := r.isLt; have := o.isLt; omega⟩

/-- A weight of head `h` times its block's scale. -/
def weightAt (s : Vec Ideal S16x128 .f32) (w : Vec Ideal S1x1024x2048 .fp8e4m3) (h : Fin 16) (r : Fin 1024) (o : Fin 2048) : EReal :=
  w (ix3 0 r o) * s (ix2 h (blkOf r o))

/-- Tiles that are all pieces of one function `G`, stored in order: at an index one of them covers, the block holds `G`. -/
theorem canon_tiles {N : Nat} {S : Shape} {e : EltTy} (G : S.Idx → Elt Ideal e) (P : Fin N → View.Piece (Elt Ideal) S e)
    (hP : ∀ n x, (P n).2 x = G ((P n).1.emb x)) (y : S.Idx) (n : Fin N) (hy : y ∈ (P n).1.set) :
    View.canon (List.ofFn fun k => P k.rev) y = G y := by
  refine View.canon_apply_of_pieces G _ ?_ y ⟨P n, (List.mem_ofFn).mpr ⟨n.rev, by rw [Fin.rev_rev]⟩, hy⟩
  intro p hp x
  obtain ⟨k, rfl⟩ := (List.mem_ofFn).mp hp
  exact hP _ x

section
variable (M : Memref sig .tc .vmem S1x512x1024 .bf16) (hM : M.IsWhole) (x : Vec Ideal S1x512x1024 .bf16)

/-- A loaded cell of `x` at an index of the cell. -/
theorem xload_at (k : Fin 32) (r l : Fin 128) (t : Fin 512) (c : Fin 1024) (ht : t.val = 128 * (k.val / 8) + r.val)
    (hc : c.val = 128 * (k.val % 8) + l.val) : xload M hM x k (ix3 0 r l) = x (ix3 0 t c) := by
  refine (hM.readAt_unread x _ _).trans (congrArg x (funext fun a => Fin.ext ?_))
  match a with
  | ⟨0, _⟩ => rfl
  | ⟨1, _⟩ => show 128 * (k.val / 8) + 1 * r.val = t.val; omega
  | ⟨2, _⟩ => show 128 * (k.val % 8) + 1 * l.val = c.val; omega

/-- A loaded cell's row is a group of the block's row. -/
theorem row_xload (k : Fin 32) (r : Fin 128) (t : Fin 512) (g : Fin 8) (ht : t.val = 128 * (k.val / 8) + r.val)
    (hg : g.val = k.val % 8) : rowAt (xload M hM x k) r = rowX x t g :=
  funext fun l => xload_at M hM x k r l t _ ht (by show 128 * g.val + l.val = _; omega)

/-- The codes' tiles make up the block of codes. -/
theorem codes_canon (t : Fin 512) (k : Fin 1024) :
    View.canon (codesL (F := Ideal) (xload M hM x)) (ix3 0 t k) = codeAt x t k := by
  have ht := t.isLt; have hk := k.isLt
  refine canon_tiles (S := S1x512x1024) (e := .fp8e4m3) (fun y => codeAt x (y 1) (y 2))
    (fun n : Fin 32 => ⟨Rect.unit (s := S1x512x1024) ![0, 128 * (n.val / 8), 128 * (n.val % 8)] S1x128x128.size (inbX n),
      Cell.codesOut (xload M hM x n)⟩) ?_ _ ⟨8 * (t.val / 128) + k.val / 128, by omega⟩ ?_
  · intro n y
    obtain ⟨z, r, l, rfl⟩ : ∃ (z : Fin 1) (r l : Fin 128), y = ix3 z r l := ⟨y 0, y 1, y 2, eq_ix3 (n0 := 1) (n1 := 128) (n2 := 128) y⟩
    obtain rfl : z = 0 := Subsingleton.elim _ _
    refine (codesOut_at _ r l).trans ?_
    have hr := r.isLt; have hl := l.isLt; have hn := n.isLt
    rw [row_xload M hM x n r ⟨128 * (n.val / 8) + r.val, by omega⟩ ⟨n.val % 8, by omega⟩ rfl rfl,
      xload_at M hM x n r l ⟨128 * (n.val / 8) + r.val, by omega⟩ ⟨128 * (n.val % 8) + l.val, by omega⟩ rfl rfl]
    have e1 : ((Rect.unit (s := S1x512x1024) ![0, 128 * (n.val / 8), 128 * (n.val % 8)] S1x128x128.size (inbX n)).emb (ix3 0 r l)) 1
        = (⟨128 * (n.val / 8) + r.val, by omega⟩ : Fin 512) := Fin.ext (by show 128 * (n.val / 8) + 1 * r.val = 128 * (n.val / 8) + r.val; omega)
    have e2 : ((Rect.unit (s := S1x512x1024) ![0, 128 * (n.val / 8), 128 * (n.val % 8)] S1x128x128.size (inbX n)).emb (ix3 0 r l)) 2
        = (⟨128 * (n.val % 8) + l.val, by omega⟩ : Fin 1024) := Fin.ext (by show 128 * (n.val % 8) + 1 * l.val = 128 * (n.val % 8) + l.val; omega)
    have e3 : grp ⟨128 * (n.val % 8) + l.val, by omega⟩ = ⟨n.val % 8, by omega⟩ :=
      Fin.ext (by show (128 * (n.val % 8) + l.val) / 128 = n.val % 8; omega)
    show _ = codeAt x _ _
    rw [e1, e2]
    unfold codeAt
    rw [e3]
  · refine (Rect.mem_set_unit (inb := inbX _)).mpr fun a => ?_
    match a with
    | ⟨0, _⟩ => exact ⟨Nat.le_refl 0, Nat.one_pos⟩
    | ⟨1, _⟩ => show 128 * ((8 * (t.val / 128) + k.val / 128) / 8) ≤ t.val ∧ t.val < 128 * ((8 * (t.val / 128) + k.val / 128) / 8) + 128; omega
    | ⟨2, _⟩ => show 128 * ((8 * (t.val / 128) + k.val / 128) % 8) ≤ k.val ∧ k.val < 128 * ((8 * (t.val / 128) + k.val / 128) % 8) + 128; omega

/-- The scales' tiles make up the block of scales. -/
theorem scale_canon (g : Fin 8) (t : Fin 512) :
    View.canon (scaleL (F := Ideal) (xload M hM x)) (ix3 0 g t) = scaleAt x g t := by
  have ht := t.isLt
  refine canon_tiles (S := S1x8x512) (e := .f32) (fun y => scaleAt x (y 1) (y 2))
    (fun n : Fin 4 => ⟨Rect.unit (s := S1x8x512) ![0, 0, 128 * n.val] S1x8x128.size (inbS n),
      Cell.scaleOut fun g => xload M hM x (rowOf n g)⟩) ?_ _ ⟨t.val / 128, by omega⟩ ?_
  · intro n y
    obtain ⟨z, g, r, rfl⟩ : ∃ (z : Fin 1) (g : Fin 8) (r : Fin 128), y = ix3 z g r := ⟨y 0, y 1, y 2, eq_ix3 (n0 := 1) (n1 := 8) (n2 := 128) y⟩
    obtain rfl : z = 0 := Subsingleton.elim _ _
    refine (scaleOut_at (fun g => xload M hM x (rowOf n g)) g r).trans ?_
    have hr := r.isLt; have hg := g.isLt; have hn := n.isLt
    rw [row_xload M hM x (rowOf n g) r ⟨128 * n.val + r.val, by omega⟩ g
      (by show 128 * n.val + r.val = 128 * ((8 * n.val + g.val) / 8) + r.val; omega) (by show g.val = (8 * n.val + g.val) % 8; omega)]
    have e1 : ((Rect.unit (s := S1x8x512) ![0, 0, 128 * n.val] S1x8x128.size (inbS n)).emb (ix3 0 g r)) 1
        = g := Fin.ext (by show 0 + 1 * g.val = g.val; omega)
    have e2 : ((Rect.unit (s := S1x8x512) ![0, 0, 128 * n.val] S1x8x128.size (inbS n)).emb (ix3 0 g r)) 2
        = (⟨128 * n.val + r.val, by omega⟩ : Fin 512) := Fin.ext (by show 128 * n.val + 1 * r.val = 128 * n.val + r.val; omega)
    show _ = scaleAt x _ _
    rw [e1, e2]
    rfl
  · refine (Rect.mem_set_unit (inb := inbS _)).mpr fun a => ?_
    match a with
    | ⟨0, _⟩ => exact ⟨Nat.le_refl 0, Nat.one_pos⟩
    | ⟨1, _⟩ => show 0 ≤ g.val ∧ g.val < 0 + 8; omega
    | ⟨2, _⟩ => show 128 * (t.val / 128) ≤ t.val ∧ t.val < 128 * (t.val / 128) + 128; omega

/-- The product's tiles make up the block of the product. -/
theorem y_canon (W : Vec Ideal S1024x2048 .bf16) (t : Fin 512) (o : Fin 2048) :
    View.canon (yL (F := Ideal) (xload M hM x) W) (ix3 0 t o) = yAt x W t o := by
  have ht := t.isLt
  refine canon_tiles (S := S1x512x2048) (e := .bf16) (fun y => yAt x W (y 1) (y 2))
    (fun n : Fin 4 => ⟨Rect.unit (s := S1x512x2048) ![0, 128 * n.val, 0] S1x128x2048.size (inbY n),
      Cell.yOut (fun g => xload M hM x (rowOf n g)) W⟩) ?_ _ ⟨t.val / 128, by omega⟩ ?_
  · intro n y
    obtain ⟨z, r, o, rfl⟩ : ∃ (z : Fin 1) (r : Fin 128) (o : Fin 2048), y = ix3 z r o := ⟨y 0, y 1, y 2, eq_ix3 (n0 := 1) (n1 := 128) (n2 := 2048) y⟩
    obtain rfl : z = 0 := Subsingleton.elim _ _
    refine (yOut_at (fun g => xload M hM x (rowOf n g)) W r o).trans ?_
    have hr := r.isLt; have hn := n.isLt
    have e1 : ((Rect.unit (s := S1x512x2048) ![0, 128 * n.val, 0] S1x128x2048.size (inbY n)).emb (ix3 0 r o)) 1
        = (⟨128 * n.val + r.val, by omega⟩ : Fin 512) := Fin.ext (by show 128 * n.val + 1 * r.val = 128 * n.val + r.val; omega)
    have e2 : ((Rect.unit (s := S1x512x2048) ![0, 128 * n.val, 0] S1x128x2048.size (inbY n)).emb (ix3 0 r o)) 2
        = o := Fin.ext (by show 0 + 1 * o.val = o.val; omega)
    show _ = yAt x W _ _
    rw [e1, e2]
    refine Finset.sum_congr rfl fun k _ => ?_
    have hk := k.isLt
    rw [deq_at, row_xload M hM x (rowOf n _) r ⟨128 * n.val + r.val, by omega⟩ (grp k)
        (by show 128 * n.val + r.val = 128 * ((8 * n.val + k.val / 128) / 8) + r.val; omega)
        (by show k.val / 128 = (8 * n.val + k.val / 128) % 8; omega),
      xload_at M hM x (rowOf n _) r _ ⟨128 * n.val + r.val, by omega⟩ k
        (by show 128 * n.val + r.val = 128 * ((8 * n.val + k.val / 128) / 8) + r.val; omega)
        (by show k.val = 128 * ((8 * n.val + k.val / 128) % 8) + k.val % 128; omega)]
    rfl
  · refine (Rect.mem_set_unit (inb := inbY _)).mpr fun a => ?_
    match a with
    | ⟨0, _⟩ => exact ⟨Nat.le_refl 0, Nat.one_pos⟩
    | ⟨1, _⟩ => show 128 * (t.val / 128) ≤ t.val ∧ t.val < 128 * (t.val / 128) + 128; omega
    | ⟨2, _⟩ => show 0 ≤ o.val ∧ o.val < 0 + 2048; omega

end

/-- The scratch's tiles make up the weights of head `h`, each times its block's scale. -/
theorem scratch_canon (i : grid0.Coords) (M : Memref sig .tc .smem S16x128 .f32) (hM : M.IsWhole) (s : Vec Ideal S16x128 .f32)
    (M' : Memref sig .tc .vmem S1x1024x2048 .fp8e4m3) (hM' : M'.IsWhole) (w : Vec Ideal S1x1024x2048 .fp8e4m3)
    (h : Fin 16) (hh : h.val = (i 0).val) (r : Fin 1024) (o : Fin 2048) :
    View.canon (scratchL (F := Ideal) (sload i M hM s) (wload M' hM' w)) (ix2 r o) = weightAt s w h r o := by
  have hr := r.isLt; have ho := o.isLt
  refine canon_tiles (S := S1024x2048) (e := .bf16) (fun y => weightAt s w h (y 0) (y 1))
    (fun n : Fin 128 => ⟨Rect.unit (s := S1024x2048) ![128 * (n.val / 16), 128 * (n.val % 16)] S128x128.size (inbD n),
      Cell.weight (sload i M hM s n) (wload M' hM' w n)⟩) ?_ _ (blkOf r o) ?_
  · intro n y
    obtain ⟨a, b, rfl⟩ : ∃ (a b : Fin 128), y = ix2 a b := ⟨y 0, y 1, eq_ix2 (n0 := 128) (n1 := 128) y⟩
    refine (weight_at _ _ a b).trans ?_
    have ha := a.isLt; have hb := b.isLt; have hn := n.isLt
    have e1 : ((Rect.unit (s := S1024x2048) ![128 * (n.val / 16), 128 * (n.val % 16)] S128x128.size (inbD n)).emb (ix2 a b)) 0
        = (⟨128 * (n.val / 16) + a.val, by omega⟩ : Fin 1024) := Fin.ext (by show 128 * (n.val / 16) + 1 * a.val = 128 * (n.val / 16) + a.val; omega)
    have e2 : ((Rect.unit (s := S1024x2048) ![128 * (n.val / 16), 128 * (n.val % 16)] S128x128.size (inbD n)).emb (ix2 a b)) 1
        = (⟨128 * (n.val % 16) + b.val, by omega⟩ : Fin 2048) := Fin.ext (by show 128 * (n.val % 16) + 1 * b.val = 128 * (n.val % 16) + b.val; omega)
    have ew : wload M' hM' w n (ix3 0 a b)
        = w (ix3 0 (⟨128 * (n.val / 16) + a.val, by omega⟩ : Fin 1024) (⟨128 * (n.val % 16) + b.val, by omega⟩ : Fin 2048)) := by
      refine (hM'.readAt_unread w _ _).trans (congrArg w (funext fun c => Fin.ext ?_))
      match c with
      | ⟨0, _⟩ => rfl
      | ⟨1, _⟩ => show 128 * (n.val / 16) + 1 * a.val = 128 * (n.val / 16) + a.val; omega
      | ⟨2, _⟩ => show 128 * (n.val % 16) + 1 * b.val = 128 * (n.val % 16) + b.val; omega
    have es : sload i M hM s n = s (ix2 h n) := by
      refine (hM.readAt_unread s _ _).trans (congrArg s (funext fun c => Fin.ext ?_))
      have hi : (i 0).val < 16 := (i 0).isLt
      match c with
      | ⟨0, _⟩ =>
        show (BitVec.ofNat 32 (i 0).val).toNat + 1 * 0 = h.val
        rw [BitVec.toNat_ofNat]; omega
      | ⟨1, _⟩ => show n.val + 1 * 0 = n.val; omega
    have e3 : blkOf ⟨128 * (n.val / 16) + a.val, by omega⟩ ⟨128 * (n.val % 16) + b.val, by omega⟩ = n :=
      Fin.ext (by show 16 * ((128 * (n.val / 16) + a.val) / 128) + (128 * (n.val % 16) + b.val) / 128 = n.val; omega)
    rw [ew, es]
    show _ = weightAt s w h _ _
    rw [e1, e2]
    unfold weightAt
    rw [e3]
  · refine (Rect.mem_set_unit (inb := inbD _)).mpr fun a => ?_
    match a with
    | ⟨0, _⟩ => show 128 * ((16 * (r.val / 128) + o.val / 128) / 16) ≤ r.val ∧ r.val < 128 * ((16 * (r.val / 128) + o.val / 128) / 16) + 128; omega
    | ⟨1, _⟩ => show 128 * ((16 * (r.val / 128) + o.val / 128) % 16) ≤ o.val ∧ o.val < 128 * ((16 * (r.val / 128) + o.val / 128) % 16) + 128; omega

section
variable (c : Dev nD) (i : grid0.Coords) (arg2 : Memref sig .tc .smem S16x128 .f32) (harg2 : arg2.IsWhole) (arg3 : Memref sig .tc .vmem S1x512x1024 .bf16) (harg3 : arg3.IsWhole) (arg4 : Memref sig .tc .vmem S1x1024x2048 .fp8e4m3) (harg4 : arg4.IsWhole) (arg5 : Memref sig .tc .vmem S1x512x2048 .bf16) (harg5 : arg5.IsWhole) (arg6 : Memref sig .tc .vmem S1x512x1024 .fp8e4m3) (harg6 : arg6.IsWhole) (arg7 : Memref sig .tc .vmem S1x8x512 .f32) (harg7 : arg7.IsWhole) (arg8 : Memref sig .tc .vmem S1024x2048 .bf16) (harg8 : arg8.IsWhole)
  (x0 : Vec Ideal S16x128 .f32) (x1 : Vec Ideal S1x512x1024 .bf16) (x2 : Vec Ideal S1x1024x2048 .fp8e4m3)

/-- Case A's block of codes. -/
theorem out_A_4 (hc0 : cond0_0 i) (t : Fin 512) (k : Fin 1024) :
    out0_A_4 (F := Ideal) c i arg2 harg2 arg3 harg3 arg4 harg4 arg5 harg5 arg6 harg6 arg7 harg7 arg8 harg8 hc0 x0 x1 x2 (ix3 0 t k) = codeAt x1 t k := by
  unfold out0_A_4
  rw [codes_A, View.read_writes_junk_eq_canon]
  exact codes_canon _ _ _ t k

/-- Case B's block of codes. -/
theorem out_B_4 (hc0 : ¬cond0_0 i) (xs : Vec Ideal S1024x2048 .bf16) (t : Fin 512) (k : Fin 1024) :
    out0_B_4 (F := Ideal) c i arg2 harg2 arg3 harg3 arg4 harg4 arg5 harg5 arg6 harg6 arg7 harg7 arg8 harg8 hc0 x0 x1 x2 xs (ix3 0 t k) = codeAt x1 t k := by
  unfold out0_B_4
  rw [codes_B, View.read_writes_junk_eq_canon]
  exact codes_canon _ _ _ t k

/-- Case A's block of scales. -/
theorem out_A_5 (hc0 : cond0_0 i) (g : Fin 8) (t : Fin 512) :
    out0_A_5 (F := Ideal) c i arg2 harg2 arg3 harg3 arg4 harg4 arg5 harg5 arg6 harg6 arg7 harg7 arg8 harg8 hc0 x0 x1 x2 (ix3 0 g t) = scaleAt x1 g t := by
  unfold out0_A_5
  rw [scale_A, View.read_writes_junk_eq_canon]
  exact scale_canon _ _ _ g t

/-- Case B's block of scales. -/
theorem out_B_5 (hc0 : ¬cond0_0 i) (xs : Vec Ideal S1024x2048 .bf16) (g : Fin 8) (t : Fin 512) :
    out0_B_5 (F := Ideal) c i arg2 harg2 arg3 harg3 arg4 harg4 arg5 harg5 arg6 harg6 arg7 harg7 arg8 harg8 hc0 x0 x1 x2 xs (ix3 0 g t) = scaleAt x1 g t := by
  unfold out0_B_5
  rw [scale_B, View.read_writes_junk_eq_canon]
  exact scale_canon _ _ _ g t

/-- What case A leaves in the scratch: the head's weights, each times its block's scale. -/
theorem sout_A (hc0 : cond0_0 i) (h : Fin 16) (hh : h.val = (i 0).val) :
    sout0_A_0 (F := Ideal) c i arg2 harg2 arg3 harg3 arg4 harg4 arg5 harg5 arg6 harg6 arg7 harg7 arg8 harg8 hc0 x0 x1 x2 = fun y => weightAt x0 x2 h (y 0) (y 1) := by
  unfold sout0_A_0
  rw [scratch_A, View.read_writes_junk_eq_canon]
  funext y
  obtain ⟨r, o, rfl⟩ : ∃ (r : Fin 1024) (o : Fin 2048), y = ix2 r o := ⟨y 0, y 1, eq_ix2 (n0 := 1024) (n1 := 2048) y⟩
  exact scratch_canon i _ _ _ _ _ _ h hh r o

/-- Case A's block of the product, over the weights it has just scaled. -/
theorem out_A_3 (hc0 : cond0_0 i) (h : Fin 16) (hh : h.val = (i 0).val) (t : Fin 512) (o : Fin 2048) :
    out0_A_3 (F := Ideal) c i arg2 harg2 arg3 harg3 arg4 harg4 arg5 harg5 arg6 harg6 arg7 harg7 arg8 harg8 hc0 x0 x1 x2 (ix3 0 t o)
      = yAt x1 (fun y => weightAt x0 x2 h (y 0) (y 1)) t o := by
  unfold out0_A_3
  rw [y_A, View.read_writes_junk_eq_canon]
  refine (y_canon _ _ _ _ t o).trans ?_
  refine Finset.sum_congr rfl fun k _ => congrArg _ ?_
  rw [View.readCov_eq_canon']
  refine Eq.trans (congrArg _ (funext fun a => Fin.ext ?_)) (scratch_canon i _ _ _ _ _ _ h hh k o)
  match a with
  | ⟨0, _⟩ => show 0 + 1 * k.val = k.val; omega
  | ⟨1, _⟩ => show 0 + 1 * o.val = o.val; omega

/-- Case B's block of the product, over the weights the scratch holds. -/
theorem out_B_3 (hc0 : ¬cond0_0 i) (xs : Vec Ideal S1024x2048 .bf16) (t : Fin 512) (o : Fin 2048) :
    out0_B_3 (F := Ideal) c i arg2 harg2 arg3 harg3 arg4 harg4 arg5 harg5 arg6 harg6 arg7 harg7 arg8 harg8 hc0 x0 x1 x2 xs (ix3 0 t o) = yAt x1 xs t o := by
  unfold out0_B_3
  rw [y_B, View.read_writes_junk_eq_canon]
  refine (y_canon _ _ _ _ t o).trans ?_
  refine Finset.sum_congr rfl fun k _ => congrArg _ ?_
  refine (harg8.readAt_unread xs _ _).trans (congrArg xs (funext fun a => Fin.ext ?_))
  match a with
  | ⟨0, _⟩ => show 0 + 1 * k.val = k.val; omega
  | ⟨1, _⟩ => show 0 + 1 * o.val = o.val; omega

end

end Cert.KernelIdeal.Blocks

end
-- ==== Proof.RefValue.lean ====
/- The reference at one index, at the reals. -/
module

public import proofs.«01_k».proof.Proof.Gen.ReferenceIdeal.Value
public import proofs.«01_k».proof.Proof.CellAt

@[expose] public section

set_option maxRecDepth 100000

noncomputable section

namespace Cert.ReferenceIdeal.AtIndex

open Idealize.ShloMosaic Idealize.ShloMosaic.Pointwise Idealize.SL.Sem Cert.ReferenceIdeal Cert.ReferenceIdeal.Gen Cert.Scale
  Cert.KernelIdeal.Cell

/-- Group `g` of row `t` of head `h` of `x`. -/
def rowX (x : Vec Ideal S16x6144x1024 .bf16) (h : Fin 16) (t : Fin 6144) (g : Fin 8) (l : Fin 128) : EReal :=
  x (ix3 h t ⟨128 * g.val + l.val, by have := g.isLt; have := l.isLt; omega⟩)

/-- The grouped values: lane `l` of group `g` is column `128 g + l`. -/
theorem grouped_at (x : Vec Ideal S16x6144x1024 .bf16) (h : Fin 16) (t : Fin 6144) (g : Fin 8) (l : Fin 128) :
    k0_pay4 (F := Ideal) x (ix4 h t g l) = rowX x h t g l := by
  unfold k0_pay4 rowX
  refine (Idealize.ShloMosaic.shapeCast_apply _ _ _ (ix3 h t ⟨128 * g.val + l.val, by have := g.isLt; have := l.isLt; omega⟩) ?_).trans ?_
  · rw [Shape.rowMajor_val_three, Shape.rowMajor_val_four]
    show (h.val * 6144 + t.val) * 1024 + (128 * g.val + l.val) = ((h.val * 6144 + t.val) * 8 + g.val) * 128 + l.val
    omega
  · rfl

/-- The exponent of a group, from its largest magnitude, at one index of any shape. -/
theorem exp_scalar {S : Shape} (a : FVec Ideal S .f32) (j : S.Idx) :
    select (cmpf .oeq a (broadcast S (Scalar.ofBits .f32 0x00000000#32))) (broadcast S (Scalar.ofBits .f32 0x00000000#32))
      (addf (floor (divf (log (mulf a (broadcast S (Scalar.ofBits .f32 0x3B124925#32)))) (broadcast S (Named.named κ "ln2" 0x3F317218#32))))
        (broadcast S (Scalar.ofBits .f32 0x3F800000#32))) j
      = expOf (a j) (a j * Ideal.ofBits .f32 0x3B124925#32) := by
  have hn : (Named.named (F := Ideal) κ "ln2" (φ := .f32) 0x3F317218#32 : Ideal .f32) = ((Real.log 2 : ℝ) : EReal) := by
    simp [Named.named, κ]
  rw [hn]
  simp only [pointwise]
  rfl

/-- Two to the negated exponent, at one index of any shape. -/
theorem exp2_neg {S : Shape} (e : FVec Ideal S .f32) (j : S.Idx) :
    exp2 (subf (broadcast S (Scalar.ofBits .f32 0x00000000#32)) e) j = Ideal.exp2 (0 - e j) := by
  simp only [pointwise]
  rfl

/-- A value times the inverse scale clipped to ±448, at one index of any shape. -/
theorem clip_scalar {S : Shape} (p e : FVec Ideal S .f32) (j : S.Idx) :
    minimumf (broadcast S (Scalar.ofBits .f32 0x43E00000#32)) (maximumf (broadcast S (Scalar.ofBits .f32 0xC3E00000#32)) (mulf p e)) j
      = clip (p j) (e j) := by
  simp only [pointwise]
  rfl

/-- A group's largest value. -/
theorem max_at (v : FVec Ideal S16x6144x8x128 .f32) (h : Fin 16) (t : Fin 6144) (g : Fin 8) :
    multiReduction .maximumf [3] S16x6144x8 v 0xFF800000#32 reduces_S16x6144x8x128_S16x6144x8 (.inl rfl) rfl (ix3 h t g)
      = Finset.univ.fold max (Ideal.ofBits .f32 0xFF800000#32) (fun k : Fin 128 => v (ix4 h t g k)) := by
  simp only [pointwise]

/-- The groups laid side by side again. -/
theorem flat_at {φ : FTy} (v : FVec Ideal S16x6144x8x128 φ) (h : Fin 16) (t : Fin 6144) (k : Fin 1024) (g : Fin 8) (l : Fin 128)
    (hk : k.val = 128 * g.val + l.val) :
    shapeCast S16x6144x1024 v shapeCasts_S16x6144x8x128_S16x6144x1024 (ix3 h t k) = v (ix4 h t g l) := by
  refine Idealize.ShloMosaic.shapeCast_apply _ _ _ (ix4 h t g l) ?_
  rw [Shape.rowMajor_val_three, Shape.rowMajor_val_four]
  show ((h.val * 6144 + t.val) * 8 + g.val) * 128 + l.val = (h.val * 6144 + t.val) * 1024 + k.val
  omega

/-- One value per group, repeated along the group. -/
theorem spread_at {φ : FTy} (e : FVec Ideal S16x6144x8 φ) (h : Fin 16) (t : Fin 6144) (g : Fin 8) (l : Fin 128) :
    broadcastTo S16x6144x8x128 (shapeCast S16x6144x8x1 e shapeCasts_S16x6144x8_S16x6144x8x1) broadcasts_S16x6144x8x1_S16x6144x8x128
      (ix4 h t g l) = e (ix3 h t g) := by
  refine (Idealize.ShloMosaic.broadcastTo_apply _ _ _ (ix4 h t g 0) ?_).trans (Idealize.ShloMosaic.shapeCast_apply _ _ _ (ix3 h t g) ?_)
  · intro a
    match a with
    | ⟨0, _⟩ => rfl
    | ⟨1, _⟩ => rfl
    | ⟨2, _⟩ => rfl
    | ⟨3, _⟩ => rfl
  · rw [Shape.rowMajor_val_three, Shape.rowMajor_val_four]
    show (h.val * 6144 + t.val) * 8 + g.val = ((h.val * 6144 + t.val) * 8 + g.val) * 1 + 0
    omega

/-- A group's largest magnitude. -/
theorem amax_at (x : Vec Ideal S16x6144x1024 .bf16) (h : Fin 16) (t : Fin 6144) (g : Fin 8) :
    multiReduction .maximumf [3] S16x6144x8 (absf (k0_pay4 (F := Ideal) x)) 0xFF800000#32 reduces_S16x6144x8x128_S16x6144x8 (.inl rfl) rfl (ix3 h t g)
      = amaxOf (rowX x h t g) := by
  refine (max_at _ h t g).trans ?_
  unfold amaxOf
  exact congrArg (fun f => Finset.univ.fold max (Ideal.ofBits .f32 0xFF800000#32) f)
    (funext fun k => congrArg (fun v : EReal => max v (-v)) (grouped_at x h t g k))

/-- A group's exponent. -/
theorem exp_at (x : Vec Ideal S16x6144x1024 .bf16) (h : Fin 16) (t : Fin 6144) (g : Fin 8) :
    k0_pay5 (F := Ideal) x (ix3 h t g) = expOf (amaxOf (rowX x h t g)) (qOf (rowX x h t g)) := by
  have ha := amax_at x h t g
  unfold k0_pay5
  refine (exp_scalar _ (ix3 h t g)).trans ?_
  rw [ha]
  rfl

/-- Two to a power, at one index of any shape. -/
theorem exp2_scalar {S : Shape} (e : FVec Ideal S .f32) (j : S.Idx) : exp2 e j = Ideal.exp2 (e j) := by
  simp only [pointwise]
  rfl

/-- Widening is the identity, at one index of any shape. -/
theorem extf_scalar {S : Shape} (e : FVec Ideal S .fp8e4m3) (hb : FTy.bits .fp8e4m3 < FTy.bits .bf16) (j : S.Idx) :
    extf .bf16 e hb j = e j := by
  simp only [pointwise]

/-- A group's scale. -/
theorem pay7_at (x : Vec Ideal S16x6144x1024 .bf16) (h : Fin 16) (t : Fin 6144) (g : Fin 8) :
    k0_pay7 (F := Ideal) x (ix3 h t g) = Ideal.exp2 (expOf (amaxOf (rowX x h t g)) (qOf (rowX x h t g))) := by
  rw [← exp_at]
  unfold k0_pay7
  exact exp2_scalar _ _

/-- The codes widened are the codes. -/
theorem pay8_at (x : Vec Ideal S16x6144x1024 .bf16) (j : S16x6144x1024.Idx) :
    k0_pay8 (F := Ideal) x j = k0_pay6 (F := Ideal) x j := by
  unfold k0_pay8
  exact extf_scalar _ _ _

/-- The scale of a group, as the reference returns it. -/
theorem scale_at (e : FVec Ideal S16x6144x8 .f32) (h : Fin 16) (g : Fin 8) (t : Fin 6144) :
    k0_pay2 (F := Ideal) e (ix3 h g t) = e (ix3 h t g) := by
  unfold k0_pay2
  refine Idealize.ShloMosaic.transpose_apply _ _ _ _ (ix3 h t g) ?_
  intro b
  match b with
  | ⟨0, _⟩ => rfl
  | ⟨1, _⟩ => rfl
  | ⟨2, _⟩ => rfl

/-- A code. -/
theorem codes_at (x : Vec Ideal S16x6144x1024 .bf16) (h : Fin 16) (t : Fin 6144) (k : Fin 1024) (g : Fin 8) (l : Fin 128)
    (hk : k.val = 128 * g.val + l.val) :
    k0_pay6 (F := Ideal) x (ix3 h t k)
      = clip (x (ix3 h t k)) (Ideal.exp2 (0 - expOf (amaxOf (rowX x h t g)) (qOf (rowX x h t g)))) := by
  have he := exp_at x h t g
  have hx : k0_pay4 (F := Ideal) x (ix4 h t g l) = x (ix3 h t k) := by
    rw [grouped_at]; exact congrArg (fun k => x (ix3 h t k)) (Fin.ext hk.symm)
  unfold k0_pay6
  refine (flat_at (φ := .f32) _ h t k g l hk).trans ((clip_scalar _ _ _).trans ?_)
  rw [hx, spread_at, exp2_neg, he]

/-- A weight times its block's scale. -/
theorem w_at (w : Vec Ideal S16x1024x2048 .fp8e4m3) (s : Vec Ideal S16x8x16 .f32) (h : Fin 16) (r : Fin 1024) (o : Fin 2048) :
    k0_pay3 (F := Ideal) w s (ix3 h r o)
      = w (ix3 h r o) * s (ix3 h ⟨r.val / 128, by have := r.isLt; omega⟩ ⟨o.val / 128, by have := o.isLt; omega⟩) := by
  simp only [k0_pay3, pointwise, OfNat.ofNat_ne_one, ↓reduceDIte]

/-- The product. -/
theorem y_at (W : FVec Ideal S16x1024x2048 .bf16) (s : FVec Ideal S16x6144x8 .f32) (c : FVec Ideal S16x6144x1024 .bf16) (h : Fin 16) (r : Fin 6144) (o : Fin 2048) :
    k0_pay1 (F := Ideal) W s c (ix3 h r o)
      = ∑ k : Fin 1024, c (ix3 h r k) * s (ix3 h r ⟨k.val / 128, by have := k.isLt; omega⟩) * W (ix3 h k o) := by
  simp only [k0_pay1, pointwise, OfNat.ofNat_ne_one, ↓reduceDIte]
  exact zero_add _

end Cert.ReferenceIdeal.AtIndex

end
-- ==== Proof.Inputs.lean ====
/- What the kernel's three input blocks hold at a grid point, in terms of the arguments, at the reals. -/
module

public import proofs.«01_k».proof.Proof.Blocks
public import proofs.«01_k».proof.Proof.RefValue
public import proofs.«01_k».proof.Proof.Gen.KernelIdeal.Value

@[expose] public section

set_option maxRecDepth 100000

noncomputable section

namespace Cert.KernelIdeal.Inputs

open Idealize.ShloMosaic Idealize.ShloMosaic.TcCoe Idealize.SL.Sem Cert.KernelIdeal Cert.KernelIdeal.Gen Cert.KernelIdeal.Blocks Cert.KernelIdeal.Cell Cert.Scale

variable (m : (ℓ : Loc nD τ sig) → Buf (Elt Ideal) ℓ) (c : Dev nD)

/-- `x`. -/
abbrev X : Vec Ideal S16x6144x1024 .bf16 := m ((c : Thread nD τ).loc main_arg0)
/-- `w`. -/
abbrev W : Vec Ideal S16x1024x2048 .fp8e4m3 := m ((c : Thread nD τ).loc main_arg1)
/-- `w`'s scales. -/
abbrev S : Vec Ideal S16x8x16 .f32 := m ((c : Thread nD τ).loc main_arg2)

/-- The head point `n` works on. -/
def headOf (n : Nat) : Fin 16 := ⟨n / 12 % 16, Nat.mod_lt _ (by decide)⟩
/-- The row of `x` that row `r` of point `n`'s block is. -/
def rowAtPt (n : Nat) (r : Fin 512) : Fin 6144 := ⟨512 * (n % 12) + r.val, by have := r.isLt; omega⟩

/-- Which block of `x`, of `w` and of the scales each point reads. -/
theorem idx_in : ∀ t : Fin cfg0.N,
    (win0_1.index t (0 : Fin 3) = t.val / 12 % 16 ∧ win0_1.index t (1 : Fin 3) = t.val % 12 ∧ win0_1.index t (2 : Fin 3) = 0)
    ∧ (win0_2.index t (0 : Fin 3) = t.val / 12 % 16 ∧ win0_2.index t (1 : Fin 3) = 0 ∧ win0_2.index t (2 : Fin 3) = 0)
    ∧ (win0_0.index t (0 : Fin 2) = 0 ∧ win0_0.index t (1 : Fin 2) = 0) :=
  (by decide +kernel : ∀ t : Fin grid0.N, _)

/-- The block of `x`. -/
theorem x_at (t : Fin cfg0.N) (r : Fin 512) (k : Fin 1024) :
    iblk m c 1 t (ix3 0 r k) = X m c (ix3 (headOf t.val) (rowAtPt t.val r) k) := by
  obtain ⟨⟨e0, e1, e2⟩, _, _⟩ := idx_in t
  show V m c main_arg0 (((cfg0.win 1).blk t).view.emb (ix3 0 r k)) = _
  rw [V_main_arg0]
  refine congrArg (X m c) (funext fun a => Fin.ext ?_)
  match a with
  | ⟨0, _⟩ => show win0_1.index t (0 : Fin 3) * 1 + 1 * 0 = t.val / 12 % 16; omega
  | ⟨1, _⟩ => show win0_1.index t (1 : Fin 3) * 512 + 1 * r.val = 512 * (t.val % 12) + r.val; omega
  | ⟨2, _⟩ => show win0_1.index t (2 : Fin 3) * 1024 + 1 * k.val = k.val; omega

/-- The block of `w`. -/
theorem w_at (t : Fin cfg0.N) (r : Fin 1024) (o : Fin 2048) :
    iblk m c 2 t (ix3 0 r o) = W m c (ix3 (headOf t.val) r o) := by
  obtain ⟨_, ⟨e0, e1, e2⟩, _⟩ := idx_in t
  show V m c main_arg1 (((cfg0.win 2).blk t).view.emb (ix3 0 r o)) = _
  rw [V_main_arg1]
  refine congrArg (W m c) (funext fun a => Fin.ext ?_)
  match a with
  | ⟨0, _⟩ => show win0_2.index t (0 : Fin 3) * 1 + 1 * 0 = t.val / 12 % 16; omega
  | ⟨1, _⟩ => show win0_2.index t (1 : Fin 3) * 1024 + 1 * r.val = r.val; omega
  | ⟨2, _⟩ => show win0_2.index t (2 : Fin 3) * 2048 + 1 * o.val = o.val; omega

/-- The scales as the kernel's operand holds them: each head's 8 x 16 laid in one row. -/
theorem V_v0 : V m c main_v0 = shapeCast S16x128 (S m c) shapeCasts_S16x8x16_S16x128 := by
  show StableHlo.after hostOps0 (fun b => m (c, b)) main_v0 = _
  simp only [hostOps0, StableHlo.after_cons, StableHlo.after_nil]
  rw [StableHlo.reshape_result]
  rfl

/-- The block of scales. -/
theorem s_at (t : Fin cfg0.N) (h : Fin 16) (n : Fin 128) (g : Fin 8) (j : Fin 16) (hn : n.val = 16 * g.val + j.val) :
    iblk m c 0 t (ix2 h n) = S m c (ix3 h g j) := by
  obtain ⟨_, _, e0, e1⟩ := idx_in t
  show V m c main_v0 (((cfg0.win 0).blk t).view.emb (ix2 h n)) = _
  have e : ((cfg0.win 0).blk t).view.emb (ix2 h n) = ix2 h n := by
    refine funext fun a => Fin.ext ?_
    match a with
    | ⟨0, _⟩ => show win0_0.index t (0 : Fin 2) * 16 + 1 * h.val = h.val; omega
    | ⟨1, _⟩ => show win0_0.index t (1 : Fin 2) * 128 + 1 * n.val = n.val; omega
  rw [e, V_v0]
  refine Idealize.ShloMosaic.shapeCast_apply _ _ _ (ix3 h g j) ?_
  rw [Shape.rowMajor_val_three, Shape.rowMajor_val_two]
  show (h.val * 8 + g.val) * 16 + j.val = h.val * 128 + n.val
  omega

end Cert.KernelIdeal.Inputs

end
-- ==== Proof.KernelValue.lean ====
/- The kernel's three results at one index, at the reals, in terms of the arguments: what each grid point leaves in its blocks, with
   the scaled weights that the head's first point put in the scratch. -/
module

public import proofs.«01_k».proof.Proof.Inputs

@[expose] public section

set_option maxRecDepth 100000

noncomputable section

namespace Cert.KernelIdeal.KernelValue

open Idealize.ShloMosaic Idealize.ShloMosaic.TcCoe Idealize.SL.Sem Cert.KernelIdeal Cert.KernelIdeal.Gen Cert.KernelIdeal.Blocks Cert.KernelIdeal.Cell Cert.Scale
  Cert.KernelIdeal.Inputs Cert.KernelIdeal.Value
open Cert.ReferenceIdeal.AtIndex (rowX)

variable (m : (ℓ : Loc nD τ sig) → Buf (Elt Ideal) ℓ) (c : Dev nD)

/-- What a grid point leaves: its blocks of the product, the codes and the scales, and the scratch. -/
abbrev Left : Type := Vec Ideal S1x512x2048 .bf16 × Vec Ideal S1x512x1024 .fp8e4m3 × Vec Ideal S1x8x512 .f32 × Vec Ideal S1024x2048 .bf16

/-- The block of 128 columns a column of `w` falls in. -/
def colBlk (o : Fin 2048) : Fin 16 := ⟨o.val / 128, by have := o.isLt; omega⟩

/-- Head `h`'s scaled weights. -/
def weights (h : Fin 16) : Vec Ideal S1024x2048 .bf16 := fun y =>
  W m c (ix3 h (y 0) (y 1)) * S m c (ix3 h (grp (y 0)) (colBlk (y 1)))

/-- The code of row `t`, column `k` of head `h`. -/
def kCode (h : Fin 16) (t : Fin 6144) (k : Fin 1024) : EReal :=
  clip (X m c (ix3 h t k)) (invOf (qOf (rowX (X m c) h t (grp k))))

/-- The scale of group `g` of row `t` of head `h`. -/
def kScale (h : Fin 16) (g : Fin 8) (t : Fin 6144) : EReal := scaleOf (qOf (rowX (X m c) h t g))

/-- Entry `(t, o)` of head `h`'s product. -/
def kY (h : Fin 16) (t : Fin 6144) (o : Fin 2048) : EReal :=
  ∑ k : Fin 1024, kCode m c h t k * kScale m c h (grp k) t * (W m c (ix3 h k o) * S m c (ix3 h (grp k) (colBlk o)))

/-- A group of a row of a point's block of `x` is that of the whole `x`. -/
theorem row_at (t : Fin cfg0.N) (r : Fin 512) (g : Fin 8) :
    Blocks.rowX (iblk m c 1 t) r g = rowX (X m c) (headOf t.val) (rowAtPt t.val r) g :=
  funext fun _ => x_at m c t r _

/-- A point's block of codes. -/
theorem codes_blk (t : Fin cfg0.N) (r : Fin 512) (k : Fin 1024) :
    codeAt (iblk m c 1 t) r k = kCode m c (headOf t.val) (rowAtPt t.val r) k := by
  unfold codeAt kCode
  rw [row_at, x_at]

/-- A point's block of scales. -/
theorem scale_blk (t : Fin cfg0.N) (g : Fin 8) (r : Fin 512) :
    scaleAt (iblk m c 1 t) g r = kScale m c (headOf t.val) g (rowAtPt t.val r) := by
  unfold scaleAt kScale
  rw [row_at]

/-- A point's product, over its head's scaled weights. -/
theorem y_blk (t : Fin cfg0.N) (r : Fin 512) (o : Fin 2048) :
    yAt (iblk m c 1 t) (weights m c (headOf t.val)) r o = kY m c (headOf t.val) (rowAtPt t.val r) o := by
  unfold yAt kY
  refine Finset.sum_congr rfl fun k _ => ?_
  rw [codes_blk, scale_blk]
  rfl

/-- The scaled weights a head's first point computes. -/
theorem weights_blk (t : Fin cfg0.N) :
    (fun y : S1024x2048.Idx => weightAt (iblk m c 0 t) (iblk m c 2 t) (headOf t.val) (y 0) (y 1)) = weights m c (headOf t.val) := by
  funext y
  obtain ⟨r, o, rfl⟩ : ∃ (r : Fin 1024) (o : Fin 2048), y = ix2 r o := ⟨y 0, y 1, eq_ix2 (n0 := 1024) (n1 := 2048) y⟩
  show weightAt (iblk m c 0 t) (iblk m c 2 t) (headOf t.val) r o = _
  unfold weightAt
  rw [w_at, s_at m c t (headOf t.val) (blkOf r o) (grp r) (colBlk o) rfl]
  rfl

/-- The grid's first coordinate is the head. -/
theorem coord_head (t : Fin cfg0.N) : (headOf t.val).val = ((grid0.coords t) 0).val := by
  exact (Pipeline.Grid.coords_val t 0 (by decide) rfl : (grid0.coords t 0).val = t.val / 12 % 16).symm

/-- The scratch after a point: its head's scaled weights, if it is a head's first or was entered with them. -/
theorem step_scratch (t : Fin cfg0.N) (acc : Left) (ha : ¬t.val % 12 = 0 → acc.2.2.2 = weights m c (headOf t.val)) :
    (stAt0 m c t.val t.isLt acc).2.2.2 = weights m c (headOf t.val) := by
  by_cases h0 : t.val % 12 = 0
  · rw [stAt0_A m c t acc h0]
    exact (sout_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) ((hcond0_0 t).mpr h0) (headOf t.val) (coord_head t)).trans (weights_blk m c t)
  · rw [stAt0_B m c t acc h0]
    exact ha h0

/-- The product's block after a point. -/
theorem step_y (t : Fin cfg0.N) (acc : Left) (ha : ¬t.val % 12 = 0 → acc.2.2.2 = weights m c (headOf t.val)) (r : Fin 512) (o : Fin 2048) :
    (stAt0 m c t.val t.isLt acc).1 (ix3 0 r o) = kY m c (headOf t.val) (rowAtPt t.val r) o := by
  by_cases h0 : t.val % 12 = 0
  · rw [stAt0_A m c t acc h0]
    dsimp only
    refine (out_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) ((hcond0_0 t).mpr h0) (headOf t.val) (coord_head t) r o).trans ?_
    rw [weights_blk, y_blk]
  · rw [stAt0_B m c t acc h0]
    dsimp only
    refine (out_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (fun h => h0 ((hcond0_0 t).mp h)) acc.2.2.2 r o).trans ?_
    rw [ha h0, y_blk]

/-- The block of codes after a point. -/
theorem step_codes (t : Fin cfg0.N) (acc : Left) (r : Fin 512) (k : Fin 1024) :
    (stAt0 m c t.val t.isLt acc).2.1 (ix3 0 r k) = kCode m c (headOf t.val) (rowAtPt t.val r) k := by
  by_cases h0 : t.val % 12 = 0
  · rw [stAt0_A m c t acc h0]
    dsimp only
    exact (out_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) ((hcond0_0 t).mpr h0) r k).trans (codes_blk m c t r k)
  · rw [stAt0_B m c t acc h0]
    dsimp only
    exact (out_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (fun h => h0 ((hcond0_0 t).mp h)) acc.2.2.2 r k).trans (codes_blk m c t r k)

/-- The block of scales after a point. -/
theorem step_scale (t : Fin cfg0.N) (acc : Left) (g : Fin 8) (r : Fin 512) :
    (stAt0 m c t.val t.isLt acc).2.2.1 (ix3 0 g r) = kScale m c (headOf t.val) g (rowAtPt t.val r) := by
  by_cases h0 : t.val % 12 = 0
  · rw [stAt0_A m c t acc h0]
    dsimp only
    exact (out_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) ((hcond0_0 t).mpr h0) g r).trans (scale_blk m c t g r)
  · rw [stAt0_B m c t acc h0]
    dsimp only
    exact (out_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (fun h => h0 ((hcond0_0 t).mp h)) acc.2.2.2 g r).trans (scale_blk m c t g r)

/-- What is left after point `n`. -/
abbrev leftAt (n : Nat) (h : 0 + n < cfg0.N) : Left :=
  Pipeline.accAt (fun n h => stAt0 m c n h junk0) (stAt0 m c) 0 n h

/-- A point's step depends on its number alone. -/
theorem point_congr (n n' : Nat) (e : n = n') (h : n < cfg0.N) (h' : n' < cfg0.N) (acc : Left) :
    stAt0 m c n h acc = stAt0 m c n' h' acc := by
  subst e; rfl

/-- Each point runs over what the one before left, and within a head that is the head's scaled weights. -/
theorem entered (n : Nat) (h : 0 + n < cfg0.N) (t : Fin cfg0.N) (ht : t.val = n) :
    ∃ acc : Left, leftAt m c n h = stAt0 m c t.val t.isLt acc ∧ (¬t.val % 12 = 0 → acc.2.2.2 = weights m c (headOf t.val)) := by
  induction n generalizing t with
  | zero =>
    obtain ⟨n, hn⟩ := t
    obtain rfl : n = 0 := ht
    exact ⟨junk0, rfl, fun h => absurd rfl h⟩
  | succ n ih =>
    obtain ⟨n', hn⟩ := t
    obtain rfl : n' = n + 1 := ht
    have hlt : n < cfg0.N := by omega
    obtain ⟨acc, e, ha⟩ := ih (by omega) ⟨n, hlt⟩ rfl
    refine ⟨leftAt m c n (by omega), ?_, fun h0 => ?_⟩
    · exact point_congr m c _ _ (Nat.zero_add (n + 1)) _ _ _
    · rw [e, step_scratch m c ⟨n, hlt⟩ acc ha]
      refine congrArg (weights m c) (Fin.ext ?_)
      have h0 : ¬(n + 1) % 12 = 0 := h0
      show n / 12 % 16 = (n + 1) / 12 % 16
      omega

/-- The point that writes row `t` of head `h`. -/
def ptOf (h : Fin 16) (t : Fin 6144) : Fin cfg0.N :=
  ⟨12 * h.val + t.val / 512, by have := h.isLt; have := t.isLt; have e : cfg0.N = 192 := N_0; omega⟩
/-- The row's place in that point's block. -/
def rowIn (t : Fin 6144) : Fin 512 := ⟨t.val % 512, Nat.mod_lt _ (by decide)⟩

/-- That point works on head `h`. -/
theorem head_pt (h : Fin 16) (t : Fin 6144) : headOf (ptOf h t).val = h :=
  Fin.ext (by have := h.isLt; have := t.isLt; show (12 * h.val + t.val / 512) / 12 % 16 = h.val; omega)

/-- The row's place is the row. -/
theorem row_pt (h : Fin 16) (t : Fin 6144) : rowAtPt (ptOf h t).val (rowIn t) = t :=
  Fin.ext (by have := h.isLt; have := t.isLt; show 512 * ((12 * h.val + t.val / 512) % 12) + t.val % 512 = t.val; omega)

/-- The kernel's product. -/
theorem G3_at (h : Fin 16) (t : Fin 6144) (o : Fin 2048) : G3 m c (ix3 h t o) = kY m c h t o := by
  have hp : pt3Of (ix3 h t o) = (ptOf h t).val := by
    show 12 * (h.val / 1 - 0) + 1 * (t.val / 512 - 0) + 1 * (o.val / 2048 - 0) = 12 * h.val + t.val / 512
    have := o.isLt; omega
  have hl : loc3Of (ix3 h t o) = ix3 0 (rowIn t) o := by
    refine funext fun a => Fin.ext ?_
    match a with
    | ⟨0, _⟩ => show h.val % 1 = 0; omega
    | ⟨1, _⟩ => rfl
    | ⟨2, _⟩ => show o.val % 2048 = o.val; have := o.isLt; omega
  obtain ⟨acc, e, ha⟩ := entered m c (pt3Of (ix3 h t o)) (by have := (ptOf h t).isLt; omega) (ptOf h t) hp.symm
  have hlt : pt3Of (ix3 h t o) < cfg0.N := by have := (ptOf h t).isLt; omega
  unfold G3
  rw [dif_pos hlt]
  show (leftAt m c (pt3Of (ix3 h t o)) _).1 (loc3Of (ix3 h t o)) = _
  rw [e, hl, step_y m c _ acc ha, head_pt, row_pt]

/-- The kernel's codes. -/
theorem G4_at (h : Fin 16) (t : Fin 6144) (k : Fin 1024) : G4 m c (ix3 h t k) = kCode m c h t k := by
  have hp : pt4Of (ix3 h t k) = (ptOf h t).val := by
    show 12 * (h.val / 1 - 0) + 1 * (t.val / 512 - 0) + 1 * (k.val / 1024 - 0) = 12 * h.val + t.val / 512
    have := k.isLt; omega
  have hl : loc4Of (ix3 h t k) = ix3 0 (rowIn t) k := by
    refine funext fun a => Fin.ext ?_
    match a with
    | ⟨0, _⟩ => show h.val % 1 = 0; omega
    | ⟨1, _⟩ => rfl
    | ⟨2, _⟩ => show k.val % 1024 = k.val; have := k.isLt; omega
  obtain ⟨acc, e, ha⟩ := entered m c (pt4Of (ix3 h t k)) (by have := (ptOf h t).isLt; omega) (ptOf h t) hp.symm
  have hlt : pt4Of (ix3 h t k) < cfg0.N := by have := (ptOf h t).isLt; omega
  unfold G4
  rw [dif_pos hlt]
  show (leftAt m c (pt4Of (ix3 h t k)) _).2.1 (loc4Of (ix3 h t k)) = _
  rw [e, hl, step_codes m c _ acc, head_pt, row_pt]

/-- The kernel's scales. -/
theorem G5_at (h : Fin 16) (g : Fin 8) (t : Fin 6144) : G5 m c (ix3 h g t) = kScale m c h g t := by
  have hp : pt5Of (ix3 h g t) = (ptOf h t).val := by
    show 12 * (h.val / 1 - 0) + 12 * (g.val / 8 - 0) + 1 * (t.val / 512 - 0) = 12 * h.val + t.val / 512
    have := g.isLt; omega
  have hl : loc5Of (ix3 h g t) = ix3 0 g (rowIn t) := by
    refine funext fun a => Fin.ext ?_
    match a with
    | ⟨0, _⟩ => show h.val % 1 = 0; omega
    | ⟨1, _⟩ => show g.val % 8 = g.val; have := g.isLt; omega
    | ⟨2, _⟩ => rfl
  obtain ⟨acc, e, ha⟩ := entered m c (pt5Of (ix3 h g t)) (by have := (ptOf h t).isLt; omega) (ptOf h t) hp.symm
  have hlt : pt5Of (ix3 h g t) < cfg0.N := by have := (ptOf h t).isLt; omega
  unfold G5
  rw [dif_pos hlt]
  show (leftAt m c (pt5Of (ix3 h g t)) _).2.2.1 (loc5Of (ix3 h g t)) = _
  rw [e, hl, step_scale m c _ acc, head_pt, row_pt]

end Cert.KernelIdeal.KernelValue

end
-- ==== Proof.RefFinal.lean ====
/- The reference's three results at one index, at the reals. -/
module

public import proofs.«01_k».proof.Proof.Gen.ReferenceIdeal.Value
public import proofs.«01_k».proof.Proof.RefValue

@[expose] public section

set_option maxRecDepth 100000

noncomputable section

namespace Cert.ReferenceIdeal.AtIndex

open Idealize.ShloMosaic Idealize.ShloMosaic.Pointwise Idealize.SL.Sem Cert.ReferenceIdeal Cert.ReferenceIdeal.Gen Cert.Scale
  Cert.KernelIdeal.Cell

/-- The body's loads read the whole of `x`. -/
theorem pay9_eq (a0 : Vec Ideal S16x6144x1024 .bf16) (a1 : Vec Ideal S16x1024x2048 .fp8e4m3) (a2 : Vec Ideal S16x8x16 .f32) :
    k0_pay9 (F := Ideal) a0 a1 a2 = k0_pay7 (F := Ideal) a0 := by
  unfold k0_pay9
  rw [View.ld_unit_zero (S := S16x6144x1024) Value.hz0 _ a0]

/-- The reference's codes. -/
theorem G4_at (a0 : Vec Ideal S16x6144x1024 .bf16) (a1 : Vec Ideal S16x1024x2048 .fp8e4m3) (a2 : Vec Ideal S16x8x16 .f32)
    (h : Fin 16) (t : Fin 6144) (k : Fin 1024) (g : Fin 8) (hg : g.val = k.val / 128) :
    Value.G4 (F := Ideal) a0 a1 a2 (ix3 h t k)
      = clip (a0 (ix3 h t k)) (Ideal.exp2 (0 - expOf (amaxOf (rowX a0 h t g)) (qOf (rowX a0 h t g)))) :=
  codes_at a0 h t k g ⟨k.val % 128, by omega⟩ (by show k.val = 128 * g.val + k.val % 128; omega)

/-- The reference's scales. -/
theorem G5_at (a0 : Vec Ideal S16x6144x1024 .bf16) (a1 : Vec Ideal S16x1024x2048 .fp8e4m3) (a2 : Vec Ideal S16x8x16 .f32)
    (h : Fin 16) (g : Fin 8) (t : Fin 6144) :
    Value.G5 (F := Ideal) a0 a1 a2 (ix3 h g t) = Ideal.exp2 (expOf (amaxOf (rowX a0 h t g)) (qOf (rowX a0 h t g))) := by
  show k0_pay2 (k0_pay9 a0 a1 a2) (ix3 h g t) = _
  rw [pay9_eq]
  rw [scale_at, pay7_at]

/-- The reference's product: codes times scales, summed against the scaled weights. -/
theorem G3_at (a0 : Vec Ideal S16x6144x1024 .bf16) (a1 : Vec Ideal S16x1024x2048 .fp8e4m3) (a2 : Vec Ideal S16x8x16 .f32)
    (h : Fin 16) (t : Fin 6144) (o : Fin 2048) (G : Fin 1024 → Fin 8) (hG : ∀ k, (G k).val = k.val / 128)
    (n : Fin 16) (hn : n.val = o.val / 128) :
    Value.G3 (F := Ideal) a0 a1 a2 (ix3 h t o)
      = ∑ k : Fin 1024,
          clip (a0 (ix3 h t k)) (Ideal.exp2 (0 - expOf (amaxOf (rowX a0 h t (G k))) (qOf (rowX a0 h t (G k)))))
            * Ideal.exp2 (expOf (amaxOf (rowX a0 h t (G k))) (qOf (rowX a0 h t (G k))))
            * (a1 (ix3 h k o) * a2 (ix3 h (G k) n)) := by
  show k0_pay1 (k0_pay3 a1 a2) (k0_pay9 a0 a1 a2) (k0_pay8 a0) (ix3 h t o) = _
  rw [pay9_eq]
  refine (y_at _ _ _ h t o).trans (Finset.sum_congr rfl fun k _ => ?_)
  have eg : (⟨k.val / 128, by have := k.isLt; omega⟩ : Fin 8) = G k := Fin.ext (hG k).symm
  have en : (⟨o.val / 128, by have := o.isLt; omega⟩ : Fin 16) = n := Fin.ext hn.symm
  rw [w_at, pay7_at, pay8_at, codes_at a0 h t k (G k) ⟨k.val % 128, by omega⟩ (by have := hG k; show k.val = 128 * (G k).val + k.val % 128; omega),
    eg, en]

end Cert.ReferenceIdeal.AtIndex

end
-- ==== Proof.PreRead.lean ====
/- The precondition at one index: each group's largest magnitude over 448 is zero or a normal float32 below `2 ^ 126`. -/
module

public import proofs.«01_k».proof.Proof.RefValue
public import proofs.«01_k».proof.Pre_groups_in_range

@[expose] public section

set_option maxRecDepth 100000

noncomputable section

namespace Cert.Pre_groups_in_range.Read

open Idealize.ShloMosaic Idealize.ShloMosaic.Pointwise Cert.Pre_groups_in_range Cert.Scale Cert.KernelIdeal.Cell
open Cert.ReferenceIdeal.AtIndex (rowX)

/-- The precondition's shape facts. -/
theorem facts : Facts where
  bitsLt_bf16_f32 := by decide
  shapeCasts_S16x6144x1024_S16x6144x8x128 := by decide
  reducesTo_S16x6144x8x128_S16x6144x8_d3 := by decide
  h_S_ := by decide
  bcast_S_S16x6144x8 := by decide

/-- A group's largest value, taken on the host. -/
theorem hostMax_at (v : FVec Ideal S16x6144x8x128 .f32) (hr : S16x6144x8x128.ReducesTo [3] S16x6144x8) (hS : 0 < S_.numel)
    (h : Fin 16) (t : Fin 6144) (g : Fin 8) :
    Host.reduce FloatOps.maximumf v (constant (F := Ideal) S_ .f32 0xFF800000#32) hr hS (ix3 h t g)
      = Finset.univ.fold max (Ideal.ofBits .f32 0xFF800000#32) (fun k : Fin 128 => v (ix4 h t g k)) := by
  simp only [pointwise]

/-- The range test, at one index of any shape. -/
theorem range_at {S : Shape} (a : FVec Ideal S .f32) (hb : S_.BroadcastsInDim S (![] : Fin 0 → Fin S.rank)) (j : S.Idx)
    (hall : ori (cmpf .oeq (mulf a (broadcastInDim S ![] hb (constant S_ .f32 0x3B124925#32))) (broadcastInDim S ![] hb (constant S_ .f32 0x00000000#32)))
      (andi (cmpf .oge (mulf a (broadcastInDim S ![] hb (constant S_ .f32 0x3B124925#32))) (broadcastInDim S ![] hb (constant S_ .f32 0x00800000#32)))
        (cmpf .olt (mulf a (broadcastInDim S ![] hb (constant S_ .f32 0x3B124925#32))) (broadcastInDim S ![] hb (constant S_ .f32 0x7E800000#32)))) j = 1#1) :
    InRange (a j * Ideal.ofBits .f32 0x3B124925#32) := by
  simp only [pointwise] at hall
  have bits : ∀ p q r : Bool, IntOp.ori (BitVec.ofBool p) (IntOp.andi (BitVec.ofBool q) (BitVec.ofBool r)) = 1#1
      → p = true ∨ (q = true ∧ r = true) := by decide
  rcases bits _ _ _ hall with h | ⟨h1, h2⟩
  · exact .inl (of_decide_eq_true h)
  · exact .inr ⟨of_decide_eq_true h1, of_decide_eq_true h2⟩

/-- A grouped magnitude, taken on the host: lane `k` of group `g` is column `128 g + k`. -/
theorem lane_at (a0 : Vec Ideal S16x6144x1024 .bf16) (hw : FTy.bits .bf16 < FTy.bits .f32) (hs : S16x6144x1024.ShapeCasts S16x6144x8x128)
    (h : Fin 16) (t : Fin 6144) (g : Fin 8) (k : Fin 128) :
    shapeCast S16x6144x8x128 (Host.absf (extf (F := Ideal) .f32 a0 hw)) hs (ix4 h t g k)
      = (max (rowX a0 h t g k) (-(rowX a0 h t g k)) : EReal) := by
  have hk : 128 * g.val + k.val < 1024 := by have := g.isLt; have := k.isLt; omega
  refine (Idealize.ShloMosaic.shapeCast_apply _ _ _ (ix3 h t ⟨128 * g.val + k.val, hk⟩) ?_).trans ?_
  · rw [Shape.rowMajor_val_three, Shape.rowMajor_val_four]
    show (h.val * 6144 + t.val) * 1024 + (128 * g.val + k.val) = ((h.val * 6144 + t.val) * 8 + g.val) * 128 + k.val
    omega
  · rfl

/-- The precondition gives every group in range. -/
theorem in_range (hF : Facts) (a0 : Vec Ideal S16x6144x1024 .bf16) (a1 : Vec Ideal S16x1024x2048 .fp8e4m3) (a2 : Vec Ideal S16x8x16 .f32)
    (hall : fn (F := Ideal) a0 a1 a2 = fun _ => 1#1) (h : Fin 16) (t : Fin 6144) (g : Fin 8) :
    InRange (qOf (rowX a0 h t g)) := by
  have hj := range_at _ hF.bcast_S_S16x6144x8 (ix3 h t g) (congrFun hall (ix3 h t g))
  have ha := hostMax_at (shapeCast S16x6144x8x128 (Host.absf (extf .f32 a0 hF.bitsLt_bf16_f32)) hF.shapeCasts_S16x6144x1024_S16x6144x8x128)
    hF.reducesTo_S16x6144x8x128_S16x6144x8_d3 hF.h_S_ h t g
  beta_reduce at hj
  rw [ha] at hj
  simp only [lane_at] at hj
  exact hj

/-- 1/448 as a float32 is a positive real. -/
theorem recip_real : ∃ r : ℝ, 0 < r ∧ Ideal.ofBits .f32 0x3B124925#32 = (r : EReal) := by
  have hs : ((0x3B124925#32 : BitVec 32).extractLsb' 31 1 == 1#1) = false := by decide
  have he : ((0x3B124925#32 : BitVec 32).extractLsb' 23 8).toNat = 118 := by decide
  have hf : ((0x3B124925#32 : BitVec 32).extractLsb' 0 23).toNat = 1198373 := by decide
  refine ⟨_, ?_, by
    show Ideal.ieee 8 23 (0x3B124925#32 : BitVec 32) = _
    unfold Ideal.ieee
    simp only [Nat.reduceAdd, hs, he, hf]
    rfl⟩
  norm_num

/-- A group's largest magnitude is zero exactly when it is zero over 448. -/
theorem amax_zero (f : Fin 128 → EReal) : amaxOf f = 0 ↔ qOf f = 0 := by
  obtain ⟨r, hr, e⟩ := recip_real
  unfold qOf
  rw [e, mul_eq_zero]
  refine ⟨.inl, fun h => h.resolve_right ?_⟩
  exact_mod_cast hr.ne'

end Cert.Pre_groups_in_range.Read

end
-- ==== Proof.Same.lean ====
/- Where every group is in range, the kernel's three results are the reference's. -/
module

public import proofs.«01_k».proof.Proof.KernelValue
public import proofs.«01_k».proof.Proof.RefFinal
public import proofs.«01_k».proof.Proof.PreRead

@[expose] public section

set_option maxRecDepth 100000

noncomputable section

namespace Cert.Same

open Idealize.ShloMosaic Idealize.ShloMosaic.TcCoe Idealize.SL.Sem Cert.KernelIdeal Cert.KernelIdeal.Gen Cert.KernelIdeal.Inputs
  Cert.KernelIdeal.KernelValue Cert.KernelIdeal.Cell Cert.KernelIdeal.Blocks Cert.Scale
open Cert.ReferenceIdeal.AtIndex (rowX)

variable (m : (ℓ : Loc nD τ sig) → Buf (Elt Ideal) ℓ) (c : Dev nD)
  (hr : ∀ (h : Fin 16) (t : Fin 6144) (g : Fin 8), InRange (qOf (rowX (X m c) h t g)))

include hr

/-- The codes agree. -/
theorem codes : Cert.KernelIdeal.Value.G4 m c = Cert.ReferenceIdeal.Value.G4 (F := Ideal) (X m c) (W m c) (S m c) := by
  funext i
  obtain ⟨h, t, k, rfl⟩ : ∃ (h : Fin 16) (t : Fin 6144) (k : Fin 1024), i = ix3 h t k :=
    ⟨i 0, i 1, i 2, eq_ix3 (n0 := 16) (n1 := 6144) (n2 := 1024) i⟩
  refine (KernelValue.G4_at m c h t k).trans ?_
  refine Eq.trans ?_ (Cert.ReferenceIdeal.AtIndex.G4_at (X m c) (W m c) (S m c) h t k (grp k) rfl).symm
  unfold kCode
  rw [(scale_inv _ _ (Cert.Pre_groups_in_range.Read.amax_zero _) (hr h t (grp k))).2]

/-- The scales agree. -/
theorem scale : Cert.KernelIdeal.Value.G5 m c = Cert.ReferenceIdeal.Value.G5 (F := Ideal) (X m c) (W m c) (S m c) := by
  funext i
  obtain ⟨h, g, t, rfl⟩ : ∃ (h : Fin 16) (g : Fin 8) (t : Fin 6144), i = ix3 h g t :=
    ⟨i 0, i 1, i 2, eq_ix3 (n0 := 16) (n1 := 8) (n2 := 6144) i⟩
  refine (KernelValue.G5_at m c h g t).trans ?_
  refine Eq.trans ?_ (Cert.ReferenceIdeal.AtIndex.G5_at (X m c) (W m c) (S m c) h g t).symm
  unfold kScale
  rw [(scale_inv _ _ (Cert.Pre_groups_in_range.Read.amax_zero _) (hr h t g)).1]

/-- One entry of the product, with the reference's scales. -/
theorem product_at (h : Fin 16) (t : Fin 6144) (o : Fin 2048) : kY m c h t o
      = ∑ k : Fin 1024,
          clip (X m c (ix3 h t k)) (Ideal.exp2 (0 - expOf (amaxOf (rowX (X m c) h t (grp k))) (qOf (rowX (X m c) h t (grp k)))))
            * Ideal.exp2 (expOf (amaxOf (rowX (X m c) h t (grp k))) (qOf (rowX (X m c) h t (grp k))))
            * (W m c (ix3 h k o) * S m c (ix3 h (grp k) (colBlk o))) := by
  unfold kY
  refine Finset.sum_congr rfl fun k _ => ?_
  unfold kCode kScale
  rw [(scale_inv _ _ (Cert.Pre_groups_in_range.Read.amax_zero _) (hr h t (grp k))).1,
    (scale_inv _ _ (Cert.Pre_groups_in_range.Read.amax_zero _) (hr h t (grp k))).2]

/-- The products agree. -/
theorem product : Cert.KernelIdeal.Value.G3 m c = Cert.ReferenceIdeal.Value.G3 (F := Ideal) (X m c) (W m c) (S m c) := by
  funext i
  obtain ⟨h, t, o, rfl⟩ : ∃ (h : Fin 16) (t : Fin 6144) (o : Fin 2048), i = ix3 h t o :=
    ⟨i 0, i 1, i 2, eq_ix3 (n0 := 16) (n1 := 6144) (n2 := 2048) i⟩
  refine (KernelValue.G3_at m c h t o).trans ?_
  exact (product_at m c hr h t o).trans
    (Cert.ReferenceIdeal.AtIndex.G3_at (X m c) (W m c) (S m c) h t o grp (fun _ => rfl) (colBlk o) rfl).symm

end Cert.Same

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Same
public import Idealize.ShloMosaic.Adequacy
public import Idealize.ShloMosaic.Init

@[expose] public section

noncomputable section

namespace Cert.Proof

open Idealize.ShloMosaic Idealize.SL.Sem Cert.Kernel

/-- From memories that agree on the arguments, every group in range, kernel and reference end with the same three results. -/
theorem algebraic : Cert.algebraic_KernelIdeal_ReferenceIdeal_pre_groups_in_range (hKernelIdeal := Cert.KernelIdeal.Gen.facts)
    (hReferenceIdeal := Cert.ReferenceIdeal.Gen.facts) (hPre_groups_in_range := Cert.Pre_groups_in_range.Read.facts) := by
  intro m g m' g' hpre hargs
  have hr := fun (c : Dev Cert.KernelIdeal.nD) => Cert.Pre_groups_in_range.Read.in_range Cert.Pre_groups_in_range.Read.facts _ _ _ (hpre c)
  refine ⟨fun c => Cert.KernelIdeal.Value.G3 m c, fun c => Cert.KernelIdeal.Value.G4 m c, fun c => Cert.KernelIdeal.Value.G5 m c,
    Cert.KernelIdeal.Value.run m g, ?_⟩
  refine (θ_run Cert.ReferenceIdeal.defs _ _).mono (fun r h c => ?_) (Cert.ReferenceIdeal.Value.run m' g')
  obtain ⟨e3, e4, e5, k0, k1, k2⟩ := h c
  obtain ⟨a0, a1, a2⟩ := hargs c
  rw [a0, a1, a2] at e3 e4 e5
  exact ⟨e3.trans (Cert.Same.product m c (hr c)).symm, e4.trans (Cert.Same.codes m c (hr c)).symm,
    e5.trans (Cert.Same.scale m c (hr c)).symm, k0, k1, k2⟩

/-- Everything claimed: the three programs run and keep their arguments, and the results are equal at the reals. -/
theorem claim : Cert.Claim :=
  ⟨Cert.Kernel.Gen.facts, Cert.KernelIdeal.Gen.facts, Cert.ReferenceIdeal.Gen.facts, Cert.Pre_groups_in_range.Read.facts,
    fun m ρ _ => Cert.Kernel.Gen.frame m ρ, fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ, trivial, algebraic⟩

end Cert.Proof

end
